-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S100000x128 .f32) (main_arg2 : FVec F S128x128 .f32) (main_arg3 : FVec F S128 .f32) (main_arg4 : FVec F S128x64 .f32) (main_arg5 : FVec F S64 .f32) (main_arg6 : FVec F S64x1 .f32) (main_arg7 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x16384 : Shape := ⟨2, ![1, 16384]⟩
abbrev S16384x128 : Shape := ⟨2, ![16384, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S_ : Shape := ⟨0, ![]⟩
abbrev S1x128x128 : Shape := ⟨3, ![1, 128, 128]⟩
abbrev S1x64 : Shape := ⟨2, ![1, 64]⟩
abbrev S1x1 : Shape := ⟨2, ![1, 1]⟩
abbrev S16384x1 : Shape := ⟨2, ![16384, 1]⟩
abbrev S8192x128 : Shape := ⟨2, ![8192, 128]⟩
abbrev S8192x1 : Shape := ⟨2, ![8192, 1]⟩
abbrev S8192x64 : Shape := ⟨2, ![8192, 64]⟩

abbrev nBuf : Table → Nat
  | .hbm => 14
  | .local .tc .vmem => 10
  | .local .scVector .vmem => 2
  | _ => 0

abbrev bufTy : (tb : Table) → Fin (nBuf tb) → BufTy
  | .hbm, ⟨0, _⟩ => ⟨S16384, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x16384, .i32⟩
  | .hbm, ⟨9, _⟩ => ⟨S16384x128, .f32⟩
  | .hbm, ⟨10, _⟩ => ⟨S1x128, .f32⟩
  | .hbm, ⟨11, _⟩ => ⟨S1x64, .f32⟩
  | .hbm, ⟨12, _⟩ => ⟨S1x1, .f32⟩
  | .hbm, ⟨13, _⟩ => ⟨S16384x1, .f32⟩
  | .local .tc .vmem, ⟨0, _⟩ => ⟨S8192x128, .f32⟩
  | .local .tc .vmem, ⟨1, _⟩ => ⟨S8192x128, .f32⟩
  | .local .tc .vmem, ⟨2, _⟩ => ⟨S128x128, .f32⟩
  | .local .tc .vmem, ⟨3, _⟩ => ⟨S1x128, .f32⟩
  | .local .tc .vmem, ⟨4, _⟩ => ⟨S128x64, .f32⟩
  | .local .tc .vmem, ⟨5, _⟩ => ⟨S1x64, .f32⟩
  | .local .tc .vmem, ⟨6, _⟩ => ⟨S64x1, .f32⟩
  | .local .tc .vmem, ⟨7, _⟩ => ⟨S1x1, .f32⟩
  | .local .tc .vmem, ⟨8, _⟩ => ⟨S8192x1, .f32⟩
  | .local .tc .vmem, ⟨9, _⟩ => ⟨S8192x1, .f32⟩
  | .local .scVector .vmem, ⟨0, _⟩ => ⟨S2x1x128, .i32⟩
  | .local .scVector .vmem, ⟨1, _⟩ => ⟨S2x128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_arg1_scv : Ref sig .scVector := ⟨.hbm, 1, rfl⟩
abbrev main_v0_scv : Ref sig .scVector := ⟨.hbm, 8, rfl⟩
abbrev main_v1_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg7_1 : Ref sig .tc := ⟨.vmem, 9, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c4_i32_27_r0 : BitVec 32 := 4#32
  let v32_r0 : BitVec 32 := Scalar.addi c0_i32_26_r0 c4_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c3_i32_68_r0 : BitVec 32 := 3#32
  let v83_r0 : BitVec 1 := Scalar.cmpi .sge arg5_r0 c3_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c3_i32_55_r0 : BitVec 32 := 3#32
  let v65_r0 : BitVec 1 := Scalar.cmpi .eq arg5_r0 c3_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x16384.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x16384.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S16384x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S16384x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x16384.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x16384.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S16384x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S16384x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c3_i32_33_r0 : BitVec 32 := 3#32
  let v37_r0 : BitVec 32 := Scalar.select v36_r0 c3_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S16384x128.size a)
theorem k0_off19_inb : ∀ (i : grid0.Coords) (v33_4_r0 : BitVec 32) (k0_hw5 : k0_chk5 i v33_4_r0), ∀ a, (k0_off19 i v33_4_r0) a + S128x128.size a ≤ S16384x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8192x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩

abbrev nBuf : Space → Nat
  | .hbm => 57
  | .vmem => 0
  | .smem => 0
  | _ => 0

abbrev bufTy : (tb : Table) → Fin (tcTables nBuf tb) → BufTy
  | .hbm, ⟨0, _⟩ => ⟨S16384, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S1, .i32⟩
  | .hbm, ⟨17, _⟩ => ⟨S_, .i32⟩
  | .hbm, ⟨18, _⟩ => ⟨S16384x1, .i32⟩
  | .hbm, ⟨19, _⟩ => ⟨S16384x1, .i1⟩
  | .hbm, ⟨20, _⟩ => ⟨S1x1, .i32⟩
  | .hbm, ⟨21, _⟩ => ⟨S16384x1, .i32⟩
  | .hbm, ⟨22, _⟩ => ⟨S16384x1, .i1⟩
  | .hbm, ⟨23, _⟩ => ⟨S16384x1, .i1⟩
  | .hbm, ⟨24, _⟩ => ⟨S_, .i1⟩
  | .hbm, ⟨25, _⟩ => ⟨S16384, .i1⟩
  | .hbm, ⟨26, _⟩ => ⟨S16384x128, .f32⟩
  | .hbm, ⟨27, _⟩ => ⟨S16384x128, .i1⟩
  | .hbm, ⟨28, _⟩ => ⟨S_, .f32⟩
  | .hbm, ⟨29, _⟩ => ⟨S16384x128, .f32⟩
  | .hbm, ⟨30, _⟩ => ⟨S16384x128, .f32⟩
  | .hbm, ⟨31, _⟩ => ⟨S16384x128, .f32⟩
  | .hbm, ⟨32, _⟩ => ⟨S1x128, .f32⟩
  | .hbm, ⟨33, _⟩ => ⟨S16384x128, .f32⟩
  | .hbm, ⟨34, _⟩ => ⟨S16384x128, .f32⟩
  | .hbm, ⟨35, _⟩ => ⟨S_, .f32⟩
  | .hbm, ⟨36, _⟩ => ⟨S16384x128, .f32⟩
  | .hbm, ⟨37, _⟩ => ⟨S16384x128, .f32⟩
  | .hbm, ⟨38, _⟩ => ⟨S16384x64, .f32⟩
  | .hbm, ⟨39, _⟩ => ⟨S1x64, .f32⟩
  | .hbm, ⟨40, _⟩ => ⟨S16384x64, .f32⟩
  | .hbm, ⟨41, _⟩ => ⟨S16384x64, .f32⟩
  | .hbm, ⟨42, _⟩ => ⟨S_, .f32⟩
  | .hbm, ⟨43, _⟩ => ⟨S16384x64, .f32⟩
  | .hbm, ⟨44, _⟩ => ⟨S16384x64, .f32⟩
  | .hbm, ⟨45, _⟩ => ⟨S16384x1, .f32⟩
  | .hbm, ⟨46, _⟩ => ⟨S1x1, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_call1_cst : Ref sig .tc := ⟨.hbm, 35, rfl⟩
abbrev main_call1_v0 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_call2_cst : Ref sig .tc := ⟨.hbm, 42, rfl⟩
abbrev main_call2_v0 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_cst : Ref sig .tc := ⟨.hbm, 51, rfl⟩
abbrev main_v17 : Ref sig .tc := ⟨.hbm, 52, rfl⟩
abbrev main_v18 : Ref sig .tc := ⟨.hbm, 53, rfl⟩
abbrev main_cst_0 : Ref sig .tc := ⟨.hbm, 54, rfl⟩
abbrev main_v19 : Ref sig .tc := ⟨.hbm, 55, rfl⟩
abbrev main_v20 : Ref sig .tc := ⟨.hbm, 56, rfl⟩

abbrev nD : Nat := 1
abbrev τ : Topo := Topo.v7x

variable {F : FTy → Type} [FloatOps F]
-- ==== Proof.Words.lean ====
module

public import proofs.«01_k».proof.Proof.Gen.KernelIdeal.Skeleton

@[expose] public section

/-! The machine words of the row gather's pipelined loop, in closed form: tile `(i 0, i 1)` handles the four blocks
    `blk i 0 … blk i 3` of 128 rows each, trip `t` working on block `blk i t` in slot `t % 2` of the double buffers. -/

noncomputable section

namespace Cert.Proof.Gather

open Idealize.ShloMosaic Cert.KernelIdeal Cert.KernelIdeal.Gen

/-- The number of block `t` of the tile at `i`: four consecutive blocks for each of the thirty-two tiles. -/
def blk (i : grid0.Coords) (t : ℕ) : ℕ := 4 * ((i 1).val + 16 * (i 0).val) + t

/-- The five words the loop carries when trip `t` starts. -/
def accW (t : ℕ) : BitVec 32 × BitVec 32 × BitVec 32 × BitVec 32 × BitVec 32 :=
  (BitVec.ofNat 32 (min (t + 1) 4), BitVec.ofNat 32 t, BitVec.ofNat 32 t, BitVec.ofNat 32 (t - 1),
    if t = 4 then 0#32 else BitVec.ofNat 32 t)

theorem accW_zero : (Scalar.addi 0#32 1#32, 0#32, 0#32, 0#32, 0#32) = accW 0 := by decide +kernel

theorem blk_lt : ∀ i : grid0.Coords, ∀ t : Fin 4, blk i t < 128 := by decide +kernel

/-! ## The checks hold of the words carried -/

theorem chk3_acc : ∀ t : Fin 4, k0_chk3 (accW t).2.1 := by unfold k0_chk3; decide +kernel
theorem chk2_acc : ∀ t : Fin 4, k0_chk2 (accW t).2.2.1 := by unfold k0_chk2; decide +kernel
theorem chk1_acc : ∀ (i : grid0.Coords) (t : Fin 4),
    k0_chk1 i t (accW t).1 (accW t).2.1 (accW t).2.2.1 (accW t).2.2.2.1 (accW t).2.2.2.2 := by unfold k0_chk1; decide +kernel
theorem chk5_acc : ∀ i : grid0.Coords, k0_chk5 i (accW 4).2.2.2.2 := by unfold k0_chk5; decide +kernel
theorem chk4_acc : k0_chk4 (accW 4).2.2.2.1 := by unfold k0_chk4; decide +kernel

/-! ## Which copies a trip makes -/

/-- The next block's indices are fetched on every trip but the last. -/
theorem cond1_acc : ∀ (i : grid0.Coords) (t : Fin 4), (k0_cond1 i t (accW t).2.2.2.2 = 1#1) ↔ t.val < 3 := by decide +kernel
/-- Every trip waits for its own indices. -/
theorem cond2_acc : ∀ (i : grid0.Coords) (t : Fin 4), k0_cond2 i t (accW t).2.2.2.2 = 1#1 := by decide +kernel
/-- Every trip copies its rows out. -/
theorem cond5_acc : ∀ (i : grid0.Coords) (t : Fin 4), k0_cond5 i t (accW t).2.2.2.2 = 1#1 := by decide +kernel
/-- Every trip but the first waits for the previous trip's rows to be out. -/
theorem cond7_acc : ∀ (i : grid0.Coords) (t : Fin 4), (k0_cond7 i t (accW t).2.2.2.2 = 1#1) ↔ 1 ≤ t.val := by decide +kernel

/-! ## The offsets -/

theorem off2_eq : ∀ i : grid0.Coords, k0_off2 i = ![0, 128 * blk i 0] := by decide +kernel
theorem off3_eq : k0_off3 = ![0] := by decide +kernel
theorem off4_eq : ∀ t : Fin 4, t.val < 3 → k0_off4 (accW t).1 = ![(t.val + 1) % 2, 0, 0] := by decide +kernel
theorem off5_eq : ∀ (i : grid0.Coords) (t : Fin 4), t.val < 3 → k0_off5 i (accW t).2.2.2.2 = ![0, 128 * blk i (t + 1)] := by decide +kernel
theorem off6_eq : ∀ t : Fin 4, t.val < 3 → k0_off6 (accW t).1 = ![(t.val + 1) % 2] := by decide +kernel
theorem off7_eq : ∀ t : Fin 4, k0_off7 (accW t).2.1 = ![t.val % 2, 0, 0] := by decide +kernel
theorem off8_eq : ∀ (i : grid0.Coords) (t : Fin 4), k0_off8 i (accW t).2.2.2.2 = ![0, 128 * blk i t] := by decide +kernel
theorem off9_eq : ∀ t : Fin 4, k0_off9 (accW t).2.1 = ![t.val % 2] := by decide +kernel
theorem off10_eq : ∀ t : Fin 4, k0_off10 (accW t).2.2.1 = ![t.val % 2, 0, 0] := by decide +kernel
theorem off11_eq : ∀ t : Fin 4, k0_off11 (accW t).2.1 = ![t.val % 2, 0, 0] := by decide +kernel
theorem off12_eq : ∀ t : Fin 4, k0_off12 (accW t).2.2.1 = ![t.val % 2, 0, 0] := by decide +kernel
theorem off13_eq : ∀ (i : grid0.Coords) (t : Fin 4), k0_off13 i (accW t).2.2.2.2 = ![128 * blk i t, 0] := by decide +kernel
theorem off14_eq : ∀ t : Fin 4, k0_off14 (accW t).2.2.1 = ![t.val % 2] := by decide +kernel
theorem off15_eq : ∀ t : Fin 4, 1 ≤ t.val → k0_off15 (accW t).2.2.2.1 = ![(t.val - 1) % 2, 0, 0] := by decide +kernel
theorem off16_eq : ∀ (i : grid0.Coords) (t : Fin 4), 1 ≤ t.val → k0_off16 i (accW t).2.2.2.2 = ![128 * blk i (t - 1), 0] := by decide +kernel
theorem off17_eq : ∀ t : Fin 4, 1 ≤ t.val → k0_off17 (accW t).2.2.2.1 = ![(t.val - 1) % 2] := by decide +kernel
theorem off19_eq : ∀ i : grid0.Coords, k0_off19 i (accW 4).2.2.2.2 = ![128 * blk i 3, 0] := by decide +kernel
theorem off20_eq : k0_off20 (accW 4).2.2.2.1 = ![1] := by decide +kernel
theorem off21_eq : k0_off21 (accW 4).2.2.2.1 = ![1, 0, 0] := by decide +kernel

end Cert.Proof.Gather

end
-- ==== Proof.Views.lean ====
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdx
public import Idealize.ShloMosaic.Lib.Tactic

@[expose] public section

/-! The places the row gather copies between, each named by its block or its slot, and what a copy through them reads
    and leaves: block `b` of the index row, slot `s` of the index double buffer, slot `s` of the row double buffer,
    block `b` of the gathered array. -/

noncomputable section

namespace Cert.Proof.Gather

open Idealize.ShloMosaic Cert.KernelIdeal Cert.KernelIdeal.Gen Idealize.ShloMosaic.ValueIdx
open Idealize.ShloMosaic.SparseCore (gatherPayload rows)

variable {F : FTy → Type}

/-- The buffers a tile's program names, each whole: the table, the index row, the gathered array, and the tile's own
    two double buffers. -/
abbrev tabM : Memref sig .scVector .hbm S100000x128 .f32 := Memref.whole main_arg1_scv
abbrev idxM : Memref sig .scVector .hbm S1x16384 .i32 := Memref.whole main_v0_scv
abbrev outM : Memref sig .scVector .hbm S16384x128 .f32 := Memref.whole main_v1_scv
abbrev ibM : Memref sig .scVector .vmem S2x1x128 .i32 := Memref.whole cc0_scoped0
abbrev rbM : Memref sig .scVector .vmem S2x128x128 .f32 := Memref.whole cc0_scoped2

theorem idxBlk_inb : ∀ b : Fin 128, ∀ a, (![0, 128 * b.val] : Fin 2 → Nat) a + S1x128.size a ≤ S1x16384.size a := by decide +kernel
theorem outBlk_inb : ∀ b : Fin 128, ∀ a, (![128 * b.val, 0] : Fin 2 → Nat) a + S128x128.size a ≤ S16384x128.size a := by decide +kernel
theorem idxSlot_inb : ∀ s : Fin 2, ∀ a, (![s.val, 0, 0] : Fin 3 → Nat) a + S1x1x128.size a ≤ S2x1x128.size a := by decide +kernel
theorem rowSlot_inb : ∀ s : Fin 2, ∀ a, (![s.val, 0, 0] : Fin 3 → Nat) a + S1x128x128.size a ≤ S2x128x128.size a := by decide +kernel
theorem sem_inb : ∀ s : Fin 2, ∀ a, (![s.val] : Fin 1 → Nat) a + S1.size a ≤ S2.size a := by decide +kernel

/-- Block `b` of the index row: its words `128 b … 128 b + 127`. -/
abbrev idxBlk (b : Fin 128) : Memref sig .scVector .hbm S1x128 .i32 :=
  idxM.slice (Rect.unit (s := S1x16384) ![0, 128 * b.val] S1x128.size (idxBlk_inb b)) (fun _ => rfl)
/-- Block `b` of the gathered array: its rows `128 b … 128 b + 127`. -/
abbrev outBlk (b : Fin 128) : Memref sig .scVector .hbm S128x128 .f32 :=
  outM.slice (Rect.unit (s := S16384x128) ![128 * b.val, 0] S128x128.size (outBlk_inb b)) (fun _ => rfl)
/-- Slot `s` of the index double buffer. -/
abbrev idxSlot (s : Fin 2) : Memref sig .scVector .vmem S1x128 .i32 :=
  (ibM.slice (Rect.unit (s := S2x1x128) ![s.val, 0, 0] S1x1x128.size (idxSlot_inb s)) (fun _ => rfl)).squeeze S1x128 squeezes_S1x1x128_S1x128
/-- The same slot as the list of row numbers a gather reads. -/
abbrev idxList (s : Fin 2) : Memref sig .scVector .vmem S128 .i32 :=
  ((idxSlot s).slice (Rect.unit (s := S1x128) ![0, 0] S1x128.size inb_S1x128_S1x128_0_0) (fun _ => rfl)).squeeze S128 squeezes_S1x128_S128
/-- Slot `s` of the row double buffer. -/
abbrev rowSlot (s : Fin 2) : Memref sig .scVector .vmem S128x128 .f32 :=
  (rbM.slice (Rect.unit (s := S2x128x128) ![s.val, 0, 0] S1x128x128.size (rowSlot_inb s)) (fun _ => rfl)).squeeze S128x128 squeezes_S1x128x128_S128x128
/-- The whole table, as the gather addresses it. -/
abbrev tabAll : Memref sig .scVector .hbm S100000x128 .f32 :=
  tabM.slice (Rect.unit (s := S100000x128) ![0, 0] S100000x128.size inb_S100000x128_S100000x128_0_0) (fun _ => rfl)

/-- The semaphore counting the copies into index slot `s`. -/
abbrev inSem (s : Fin 2) : DmaSem sig :=
  ((cc0_scoped1.slice (Rect.unit (s := S2) ![s.val] S1.size (sem_inb s))).squeeze S_ squeezes_S1_S_).sem
/-- The semaphore counting the copies out of row slot `s`. -/
abbrev outSem (s : Fin 2) : DmaSem sig :=
  ((cc0_scoped3.slice (Rect.unit (s := S2) ![s.val] S1.size (sem_inb s))).squeeze S_ squeezes_S1_S_).sem

/-! ## What is gathered -/

/-- The table row a word names (row 0 for a word that names none). -/
def rowNo (w : BitVec 32) : Fin 100000 := if h : w.toNat < 100000 then ⟨w.toNat, h⟩ else 0

theorem rowNo_val (w : BitVec 32) (h : w.toNat < 100000) : (rowNo w).val = w.toNat := by rw [rowNo, dif_pos h]

/-- The gathered array: its row `r` is the table's row that word `r` of the index row names. -/
def gath (tab : S100000x128.Idx → Elt F .f32) (idx : S1x16384.Idx → Elt F .i32) : S16384x128.Idx → Elt F .f32 :=
  fun x => tab (ix2 (rowNo (idx (ix2 (0 : Fin 1) (x 0)))) (x 1))

/-- Word `j` of block `b`, as an index of the index row. -/
def blkPos (b j : Fin 128) : Fin 16384 := ⟨128 * b.val + j.val, by have := b.isLt; have := j.isLt; omega⟩

theorem idxBlk_read (f : S1x16384.Idx → Elt F .i32) (b : Fin 128) (j : Fin 128) :
    (idxBlk b).view.read (Elt F) f (ix2 (0 : Fin 1) j) = f (ix2 (0 : Fin 1) (blkPos b j)) := by
  refine (View.read_apply _ _).trans ((cast_eq _ _).trans (congrArg f ?_))
  funext a; apply Fin.ext
  match a with
  | 0 => rfl
  | 1 => exact (show 128 * b.val + 1 * j.val = 128 * b.val + j.val by omega)

/-- An index slot read as a list reads the slot's words in order. -/
theorem idxList_read (f : S2x1x128.Idx → Elt F .i32) (s : Fin 2) (x : S128.Idx) :
    (idxList s).view.read (Elt F) f x = (idxSlot s).view.read (Elt F) f (ix2 (0 : Fin 1) (x 0)) := by
  refine (View.read_apply _ _).trans (Eq.trans ?_ (View.read_apply _ _).symm)
  refine congrArg _ (congrArg f ?_)
  show (idxSlot s).view.emb _ = _
  refine congrArg (idxSlot s).view.emb ?_
  refine (congrArg (Rect.unit (s := S1x128) ![0, 0] S1x128.size inb_S1x128_S1x128_0_0).emb
    (Shape.reshapeEquiv_cons_one squeezes_S1x128_S128.numel_eq x)).trans ?_
  funext a; apply Fin.ext
  match a with
  | 0 => rfl
  | 1 => exact (show 0 + 1 * (x 0).val = (x 0).val by omega)

/-- An element of block `b` of the gathered array stands at its row's position in the block. -/
theorem outBlk_emb (b : Fin 128) (x : S128x128.Idx) : (outBlk b).view.emb x = ix2 (blkPos b (x 0)) (x 1) := by
  funext a; apply Fin.ext
  match a with
  | 0 => exact (show 128 * b.val + 1 * (x 0).val = 128 * b.val + (x 0).val by omega)
  | 1 => exact (show 0 + 1 * (x 1).val = (x 1).val by omega)

theorem tabAll_read (f : S100000x128.Idx → Elt F .f32) (x : S100000x128.Idx) :
    tabAll.view.read (Elt F) f x = f x := by
  refine (View.read_apply _ _).trans ((cast_eq _ _).trans (congrArg f ?_))
  funext a; apply Fin.ext
  match a with
  | 0 => exact (show 0 + 1 * (x 0).val = (x 0).val by omega)
  | 1 => exact (show 0 + 1 * (x 1).val = (x 1).val by omega)

/-- What one gather brings: row `x 0` of the block is the table's row that the list's word `x 0` names. -/
theorem gathered_apply (tab : S100000x128.Idx → Elt F .f32) (idx : S1x16384.Idx → Elt F .i32)
    (s : Fin 2) (b : Fin 128) (f : S2x1x128.Idx → Elt F .i32)
    (hf : ∀ j : Fin 128, (idxSlot s).view.read (Elt F) f (ix2 (0 : Fin 1) j) = idx (ix2 (0 : Fin 1) (blkPos b j)))
    (hn : S128.numel = S128x128.size gathers_S100000x128_S128x128.axis')
    (hin : ∀ j, ((idxList s).view.read (Elt F) f j).toNat < S100000x128.size gathers_S100000x128_S128x128.axis) (x : S128x128.Idx) :
    gatherPayload gathers_S100000x128_S128x128 (tabAll.view.read (Elt F) tab) (rows ((idxList s).view.read (Elt F) f) hn hin) x
      = gath tab idx ((outBlk b).view.emb x) := by
  rw [outBlk_emb]
  refine (tabAll_read tab _).trans (congrArg tab ?_)
  have hpos : ((S128.rowMajor.symm ((x 0).cast hn.symm)) 0) = x 0 := by
    apply Fin.ext
    have h := Shape.rowMajor_val_one (d := ![128]) (S128.rowMajor.symm ((x 0).cast hn.symm))
    rw [Equiv.apply_symm_apply] at h
    exact h.symm
  funext a; apply Fin.ext
  match a with
  | 0 =>
    refine (congrArg Fin.val (Shape.Gathers.idx_axis gathers_S100000x128_S128x128 _ x)).trans ?_
    show ((idxList s).view.read (Elt F) f (S128.rowMajor.symm ((x 0).cast hn.symm))).toNat
      = (rowNo (idx (ix2 (0 : Fin 1) (blkPos b (x 0))))).val
    have h0 := hin (S128.rowMajor.symm ((x 0).cast hn.symm))
    have he : (idxList s).view.read (Elt F) f (S128.rowMajor.symm ((x 0).cast hn.symm)) = idx (ix2 (0 : Fin 1) (blkPos b (x 0))) :=
      ((idxList_read f s _).trans (hf _)).trans (congrArg (fun k => idx (ix2 (0 : Fin 1) (blkPos b k))) hpos)
    rw [he] at h0 ⊢
    exact (rowNo_val _ h0).symm
  | 1 => exact Shape.Gathers.idx_of_ne gathers_S100000x128_S128x128 _ x 1 (by decide)

/-- Every word of a list holding block `b` of in-range words is in range. -/
theorem idxList_lt (idx : S1x16384.Idx → Elt F .i32) (hlt : ∀ x, (idx x).toNat < 100000)
    (s : Fin 2) (b : Fin 128) (f : S2x1x128.Idx → Elt F .i32)
    (hf : ∀ j : Fin 128, (idxSlot s).view.read (Elt F) f (ix2 (0 : Fin 1) j) = idx (ix2 (0 : Fin 1) (blkPos b j))) (j : S128.Idx) :
    ((idxList s).view.read (Elt F) f j).toNat < S100000x128.size gathers_S100000x128_S128x128.axis := by
  rw [show (idxList s).view.read (Elt F) f j = _ from (idxList_read f s j).trans (hf (j 0))]; exact hlt _

/-- An index slot after block `b` was copied in. -/
theorem idxSlot_copied (idx : S1x16384.Idx → Elt F .i32) (s : Fin 2) (b : Fin 128) (f : S2x1x128.Idx → Elt F .i32) (j : Fin 128) :
    (idxSlot s).view.read (Elt F) ((idxSlot s).view.write (Elt F) f ((idxBlk b).view.read (Elt F) idx) Finset.univ) (ix2 (0 : Fin 1) j)
      = idx (ix2 (0 : Fin 1) (blkPos b j)) := by
  rw [View.read_write_univ]; exact idxBlk_read idx b j

end Cert.Proof.Gather

end
-- ==== Proof.Setup.lean ====
module

public import proofs.«01_k».proof.Defs
public import proofs.«01_k».proof.Proof.Views
public import proofs.«01_k».proof.Proof.Gen.KernelIdeal
public import proofs.«01_k».proof.Proof.Gen.KernelIdeal.Launch
public import proofs.«01_k».proof.Proof.Gen.KernelIdeal.Points

@[expose] public section

/-! The launch's set-up: the two calls as the launch theorem sees them, the ghost state, and the threads the row gather
    runs on. -/

noncomputable section

namespace Cert.Proof.Gather

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The labels of the pipelined calls. -/
abbrev ΛP : Labels := Pipeline.Sig Λ₀ (Fin 1) fun p => (pcfgs (F := F) p).Adm
/-- The SparseCore call. -/
abbrev K : SparseCore.Cfg τ sig (ΛP (F := F)) 1 := sc (F := F)
theorem nCore_zero : (K (F := F)).nCore 0 = 2 := rfl
theorem nSub_zero : (K (F := F)).nSub 0 = 16 := rfl
/-- The bodies under the SparseCore call. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch decides about the call's semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Ghost state: the handshakes' rounds, then the pipelined region's rounds beside the copies' counters. -/
abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL

def EP : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb

instance EP_landsIn : (EP (F := F)).LandsIn (upEmb : UEmb _ 𝕄) := by unfold EP; infer_instance

/-- The counters of a thread's copies. -/
abbrev EC : UEmb Counters (MT nD τ sig (HIx 1) (Elt F) ℕ UU ℕ) := countersEmb

/-- The SparseCore and the tile that grid point `L` names, and its thread. -/
abbrev cV (L : grid0.Coords) : Fin τ.nSC := (L 0).castLE hcore0
abbrev jV (L : grid0.Coords) : Fin τ.nSub := (L 1).castLE hsub0
abbrev tile (d : Dev nD) (L : grid0.Coords) : Thread nD τ := V d (cV L) (jV L)

/-- The table, the index row and the gathered array as device buffers. -/
abbrev tabLoc (d : Dev nD) : Loc nD τ sig := (SparseCore.T d).loc main_arg1
abbrev idxLoc (d : Dev nD) : Loc nD τ sig := (SparseCore.T d).loc main_v0
abbrev outLoc (d : Dev nD) : Loc nD τ sig := (SparseCore.T d).loc main_v1

end Cert.Proof.Gather

end
-- ==== Proof.Steps.lean ====
module

public import proofs.«01_k».proof.Proof.Setup

@[expose] public section

/-! What a tile holds while its loop runs, and the five memory operations of the loop over it: a copy of an index block
    into its slot, the wait for it, the gather of the rows a slot lists, the copy of a row slot out, the wait for it. -/

noncomputable section

namespace Cert.Proof.Gather

open Cert.KernelIdeal Cert.KernelIdeal.Gen
open Idealize.ShloMosaic Idealize.ShloMosaic.ValueIdx
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (tab : S100000x128.Idx → Elt F .f32) (idx : S1x16384.Idx → Elt F .i32) (ini : S16384x128.Idx → Elt F .f32)
variable (d : Dev nD) (L : grid0.Coords)

/-- Block `b` of the index row. -/
def idxPts (b : Fin 128) : sProp 𝕄 := idxLoc d ↦[(idxBlk b).view.set]{fullShare} idx
/-- Block `b` of the gathered array, at contents `f`. -/
def outPts (f : S16384x128.Idx → Elt F .f32) (b : Fin 128) : sProp 𝕄 := outLoc d ↦[(outBlk b).view.set]{fullShare} f
/-- The table, at a share. -/
def tabPts (q : PosShare TreeShare) : sProp 𝕄 := tabLoc d ↦{q} tab

/-- An index slot's words, whatever they are. -/
def idxFree (s : Fin 2) : sProp 𝕄 :=
  iprop(∃ f : S2x1x128.Idx → Elt F .i32, (tile d L).loc cc0_scoped0 ↦[(idxSlot s).view.set]{fullShare} f)
/-- An index slot holding block `b` of the index row. -/
def idxHas (s : Fin 2) (b : Fin 128) : sProp 𝕄 :=
  iprop(∃ f : S2x1x128.Idx → Elt F .i32,
    ⌜∀ j : Fin 128, (idxSlot s).view.read (Elt F) f (ix2 (0 : Fin 1) j) = idx (ix2 (0 : Fin 1) (blkPos b j))⌝
      ∗ (tile d L).loc cc0_scoped0 ↦[(idxSlot s).view.set]{fullShare} f)
/-- A row slot's elements, whatever they are. -/
def rowFree (s : Fin 2) : sProp 𝕄 :=
  iprop(∃ f : S2x128x128.Idx → Elt F .f32, (tile d L).loc cc0_scoped2 ↦[(rowSlot s).view.set]{fullShare} f)
/-- A row slot holding the rows that block `b` of the index row names. -/
def rowHas (s : Fin 2) (b : Fin 128) : sProp 𝕄 :=
  iprop(∃ f : S2x128x128.Idx → Elt F .f32,
    ⌜∀ x : S128x128.Idx, (rowSlot s).view.read (Elt F) f x = gath tab idx ((outBlk b).view.emb x)⌝
      ∗ (tile d L).loc cc0_scoped2 ↦[(rowSlot s).view.set]{fullShare} f)

/-- The words a copy into an index slot, and a copy out of a row slot, counts. -/
abbrev inAmt : ℕ := (idxSlot 0).view.dmaCredit
abbrev outAmt : ℕ := (outBlk 0).view.dmaCredit

/-- The copy of block `b` into index slot `s`, under way. -/
def InFl (s : Fin 2) (b : Fin 128) : sProp 𝕄 :=
  Transfers.Flight EC (tile d L) (.dma (inSem s)) (default : HIx 1) inAmt iprop(idxHas idx d L s b ∗ idxPts idx d b)
/-- The copy of row slot `s` out to block `b`, under way. -/
def OutFl (s : Fin 2) (b : Fin 128) : sProp 𝕄 :=
  Transfers.Flight EC (tile d L) (.dma (outSem s)) (default : HIx 1) outAmt iprop(outPts d (gath tab idx) b ∗ rowFree d L s)

/-- Slot `s`'s semaphores and the gather's, at zero. -/
def inZero (s : Fin 2) : sProp 𝕄 := semVal (tile d L, .dma (inSem s)) 0
def outZero (s : Fin 2) : sProp 𝕄 := semVal (tile d L, .dma (outSem s)) 0
def gatZero : sProp 𝕄 := semVal (tile d L, .dma cc0_scoped4.sem) 0

/-- What the tile still owes is what it owed, with more of its own waits recorded. -/
def Ow (O : CellTallies nD τ sig (HIx 1)) (W : Waits sig (HIx 1)) : sProp 𝕄 :=
  iprop(∃ W', ⌜∀ p ∈ W', p ∈ W ∨ p.2 = none⌝ ∗ owes (tile d L) O W')

local notation "WP" => wp frame (wpE (defs₀ (F := F)) 𝒱₀ (tile d L) none) Set.univ

theorem inAmt_eq : ∀ s, (idxSlot s).view.dmaCredit = inAmt := by decide
theorem outAmt_eq : ∀ b, (outBlk b).view.dmaCredit = outAmt := fun _ => rfl

/-- A block of the index row is copied towards a free slot. -/
theorem wp_copyIn (s : Fin 2) (b : Fin 128) {oI : Fin 3 → ℕ} {oX : Fin 2 → ℕ} {oS : Fin 1 → ℕ}
    (hI : oI = ![s.val, 0, 0]) (hX : oX = ![0, 128 * b.val]) (hS : oS = ![s.val])
    {pI : ∀ a, oI a + S1x1x128.size a ≤ S2x1x128.size a} {pX : ∀ a, oX a + S1x128.size a ≤ S1x16384.size a} {pS : ∀ a, oS a + S1.size a ≤ S2.size a}
    {h₁ h₂ h₃} {Q : PUnit → sProp 𝕄} :
    iprop(idxPts idx d b ∗ idxFree d L s ∗ inZero d L s)
      ⊢ iprop((InFl idx d L s b -∗ Q ⟨⟩)
        -∗ WP (Prog.lift (TpuEff.enqueueDma (nD := nD) (τ := τ) (Val := Elt F) (Λ := Λ₀) (p := .scVector (cV L) (jV L))
          (idxM.slice (Rect.unit (s := S1x16384) oX S1x128.size pX) (fun _ => rfl))
          (.here ((ibM.slice (Rect.unit (s := S2x1x128) oI S1x1x128.size pI) (fun _ => rfl)).squeeze S1x128 squeezes_S1x1x128_S1x128))
          (.dma ((cc0_scoped1.slice (Rect.unit (s := S2) oS S1.size pS)).squeeze S_ squeezes_S1_S_).sem) h₁ h₂ h₃)) Q) := by
  subst hI hX hS
  unfold idxFree inZero
  iintro ⟨Hx, ⟨%f, Hi⟩, Hz⟩ Hk
  iapply (Transfers.wp_dmaLocal EC 𝒱₀ (tile d L) none (default : HIx 1) inAmt ((View.amount_dma _ _).trans (inAmt_eq s)) (by decide) (Finset.Subset.refl _)) $$ [Hx Hi Hz]
  · isplitl [Hx]; · unfold idxPts; iexact Hx
    isplitl [Hi]; · iexact Hi
    iexact Hz
  iintro Hfl
  simp only [wp_ret]
  imodintro
  iapply Hk
  unfold InFl
  iapply (Transfers.Flight_mono EC (tile d L) ?_) $$ Hfl
  iintro ⟨Hi, Hx⟩
  isplitl [Hi]
  · unfold idxHas
    iexists _
    isplitr
    swap; · iexact Hi
    ipureintro
    exact fun j => idxSlot_copied idx s b f j
  · unfold idxPts; iexact Hx

/-- The wait for a slot's copy brings the slot filled and the block back. -/
theorem wp_waitIn (s : Fin 2) (b : Fin 128) (O : CellTallies nD τ sig (HIx 1)) (W : Waits sig (HIx 1))
    {oI : Fin 3 → ℕ} {oX : Fin 2 → ℕ} {oS : Fin 1 → ℕ} (hI : oI = ![s.val, 0, 0]) (hS : oS = ![s.val])
    {pI : ∀ a, oI a + S1x1x128.size a ≤ S2x1x128.size a} {pX : ∀ a, oX a + S1x128.size a ≤ S1x16384.size a} {pS : ∀ a, oS a + S1.size a ≤ S2.size a}
    {h₁ h₂} {Q : PUnit → sProp 𝕄} :
    iprop(Transfers.MayWaits (tile d L) (default : HIx 1) O ∗ InFl idx d L s b ∗ Ow d L O W)
      ⊢ iprop((iprop(idxHas idx d L s b ∗ idxPts idx d b ∗ inZero d L s ∗ Ow d L O W) -∗ Q ⟨⟩)
        -∗ WP (Prog.lift (TpuEff.waitDma2 (nD := nD) (τ := τ) (Val := Elt F) (Λ := Λ₀) (p := .scVector (cV L) (jV L))
          ((cc0_scoped1.slice (Rect.unit (s := S2) oS S1.size pS)).squeeze S_ squeezes_S1_S_).sem
          (idxM.slice (Rect.unit (s := S1x16384) oX S1x128.size pX) (fun _ => rfl))
          ((ibM.slice (Rect.unit (s := S2x1x128) oI S1x1x128.size pI) (fun _ => rfl)).squeeze S1x128 squeezes_S1x1x128_S1x128) h₁ h₂)) Q) := by
  subst hI hS
  unfold InFl Ow
  iintro ⟨#Hmw, Hfl, ⟨%W', %hW', HO⟩⟩ Hk
  iapply (Transfers.wp_waitLocalO EC 𝒱₀ (tile d L) none (default : HIx 1) (inAmt_eq s)) $$ [Hfl HO]
  · isplitl [Hfl]; · iexact Hfl
    isplitl [HO]; · iexact HO
    iapply (Transfers.MayWaits.elim (SemLoc.dma (inSem s))) $$ Hmw
  iintro ⟨⟨Hi, Hx⟩, Hz, HO⟩
  simp only [wp_ret]
  imodintro
  iapply Hk
  isplitl [Hi]; · iexact Hi
  isplitl [Hx]; · iexact Hx
  isplitl [Hz]; · unfold inZero; iexact Hz
  iexists _
  isplitr
  swap; · iexact HO
  ipureintro
  intro p hp
  rcases Finset.mem_insert.mp hp with hp | hp
  · exact .inr (hp ▸ rfl)
  · exact hW' p hp

/-- A row slot holding block `b`'s rows is copied out towards block `b`. -/
theorem wp_copyOut (s : Fin 2) (b : Fin 128) {oR : Fin 3 → ℕ} {oX : Fin 2 → ℕ} {oS : Fin 1 → ℕ}
    (hR : oR = ![s.val, 0, 0]) (hX : oX = ![128 * b.val, 0]) (hS : oS = ![s.val])
    {pR : ∀ a, oR a + S1x128x128.size a ≤ S2x128x128.size a} {pX : ∀ a, oX a + S128x128.size a ≤ S16384x128.size a} {pS : ∀ a, oS a + S1.size a ≤ S2.size a}
    {h₁ h₂ h₃} {Q : PUnit → sProp 𝕄} :
    iprop(rowHas tab idx d L s b ∗ outPts d ini b ∗ outZero d L s)
      ⊢ iprop((OutFl tab idx d L s b -∗ Q ⟨⟩)
        -∗ WP (Prog.lift (TpuEff.enqueueDma (nD := nD) (τ := τ) (Val := Elt F) (Λ := Λ₀) (p := .scVector (cV L) (jV L))
          ((rbM.slice (Rect.unit (s := S2x128x128) oR S1x128x128.size pR) (fun _ => rfl)).squeeze S128x128 squeezes_S1x128x128_S128x128)
          (.here (outM.slice (Rect.unit (s := S16384x128) oX S128x128.size pX) (fun _ => rfl)))
          (.dma ((cc0_scoped3.slice (Rect.unit (s := S2) oS S1.size pS)).squeeze S_ squeezes_S1_S_).sem) h₁ h₂ h₃)) Q) := by
  subst hR hX hS
  unfold rowHas outZero
  iintro ⟨⟨%f, %hf, Hr⟩, Ho, Hz⟩ Hk
  iapply (Transfers.wp_dmaLocal EC 𝒱₀ (tile d L) none (default : HIx 1) outAmt ((View.amount_dma _ _).trans (outAmt_eq b)) (by decide) (Finset.Subset.refl _)) $$ [Hr Ho Hz]
  · isplitl [Hr]; · iexact Hr
    isplitl [Ho]; · unfold outPts; iexact Ho
    iexact Hz
  iintro Hfl
  simp only [wp_ret]
  imodintro
  iapply Hk
  unfold OutFl
  iapply (Transfers.Flight_mono EC (tile d L) ?_) $$ Hfl
  iintro ⟨Ho, Hr⟩
  isplitl [Ho]
  · unfold outPts
    iapply (Entails.of_eq (pointsTo_congr (ℓ := outLoc d) (I := (outBlk b).view.set) (q := fullShare) ?_)) $$ Ho
    intro x hx
    obtain ⟨y, -, rfl⟩ := Finset.mem_map.mp hx
    exact (View.write_emb_of_mem (v := (outBlk b).view) _ _ (Finset.mem_univ y)).trans ((cast_eq _ _).trans (hf y))
  · unfold rowFree
    iexists _; iexact Hr

/-- The wait for a copy out brings the block written and the slot back. -/
theorem wp_waitOut (s : Fin 2) (b : Fin 128) (O : CellTallies nD τ sig (HIx 1)) (W : Waits sig (HIx 1))
    {oR : Fin 3 → ℕ} {oX : Fin 2 → ℕ} {oS : Fin 1 → ℕ} (hS : oS = ![s.val])
    {pR : ∀ a, oR a + S1x128x128.size a ≤ S2x128x128.size a} {pX : ∀ a, oX a + S128x128.size a ≤ S16384x128.size a} {pS : ∀ a, oS a + S1.size a ≤ S2.size a}
    {h₁ h₂} {Q : PUnit → sProp 𝕄} :
    iprop(Transfers.MayWaits (tile d L) (default : HIx 1) O ∗ OutFl tab idx d L s b ∗ Ow d L O W)
      ⊢ iprop((iprop(outPts d (gath tab idx) b ∗ rowFree d L s ∗ outZero d L s ∗ Ow d L O W) -∗ Q ⟨⟩)
        -∗ WP (Prog.lift (TpuEff.waitDma2 (nD := nD) (τ := τ) (Val := Elt F) (Λ := Λ₀) (p := .scVector (cV L) (jV L))
          ((cc0_scoped3.slice (Rect.unit (s := S2) oS S1.size pS)).squeeze S_ squeezes_S1_S_).sem
          ((rbM.slice (Rect.unit (s := S2x128x128) oR S1x128x128.size pR) (fun _ => rfl)).squeeze S128x128 squeezes_S1x128x128_S128x128)
          (outM.slice (Rect.unit (s := S16384x128) oX S128x128.size pX) (fun _ => rfl)) h₁ h₂)) Q) := by
  subst hS
  unfold OutFl Ow
  iintro ⟨#Hmw, Hfl, ⟨%W', %hW', HO⟩⟩ Hk
  iapply (Transfers.wp_waitLocalO EC 𝒱₀ (tile d L) none (default : HIx 1)
      (show (outM.slice (Rect.unit (s := S16384x128) oX S128x128.size pX) (fun _ => rfl)).view.dmaCredit = outAmt from rfl)) $$ [Hfl HO]
  · isplitl [Hfl]; · iexact Hfl
    isplitl [HO]; · iexact HO
    iapply (Transfers.MayWaits.elim (SemLoc.dma (outSem s))) $$ Hmw
  iintro ⟨⟨Ho, Hr⟩, Hz, HO⟩
  simp only [wp_ret]
  imodintro
  iapply Hk
  isplitl [Ho]; · iexact Ho
  isplitl [Hr]; · iexact Hr
  isplitl [Hz]; · unfold outZero; iexact Hz
  iexists _
  isplitr
  swap; · iexact HO
  ipureintro
  intro p hp
  rcases Finset.mem_insert.mp hp with hp | hp
  · exact .inr (hp ▸ rfl)
  · exact hW' p hp

theorem rowAmt_eq : ∀ (s : Fin 2) (h : S100000x128.Gathers 0 S128x128),
    ∑ j, ((rowSlot s).slice (S128x128.rowRect h.axis' j) (S128x128.stride_rowRect h.axis' j)).view.dmaCredit = (rowSlot s).view.dmaCredit := by decide

/-- The slot's words as the list a gather reads are the slot's words. -/
theorem idxList_set (s : Fin 2) : (idxList s).view.set = (idxSlot s).view.set := by
  show (((idxSlot s).view.slice _).reshape _ _).set = _
  rw [View.set_reshape, View.set_slice]
  refine congrArg (Finset.map (idxSlot s).view.emb) (Finset.eq_univ_iff_forall.mpr fun x => Rect.mem_set_unit.mpr fun a => ?_)
  have h := (x a).isLt
  match a with
  | 0 => exact ⟨Nat.zero_le _, by simpa using h⟩
  | 1 => exact ⟨Nat.zero_le _, by simpa using h⟩

/-- The gather of the rows a slot lists, started and waited for: the row slot then holds them. -/
theorem wp_gather (s : Fin 2) (b : Fin 128) (q : PosShare TreeShare) (hlt : ∀ x, (idx x).toNat < 100000)
    (O : CellTallies nD τ sig (HIx 1)) (W : Waits sig (HIx 1))
    {oR oI : Fin 3 → ℕ} (hR : oR = ![s.val, 0, 0]) (hI : oI = ![s.val, 0, 0])
    {pR pR' : ∀ a, oR a + S1x128x128.size a ≤ S2x128x128.size a} {pI : ∀ a, oI a + S1x1x128.size a ≤ S2x1x128.size a}
    {hp hn h₁ h₂ h₃ h₄ h₅} {Q : PUnit → sProp 𝕄} :
    iprop(Transfers.MayWaits (tile d L) (default : HIx 1) O ∗ idxHas idx d L s b ∗ rowFree d L s ∗ tabPts tab d q ∗ gatZero d L ∗ Ow d L O W)
      ⊢ iprop((iprop(idxFree d L s ∗ rowHas tab idx d L s b ∗ tabPts tab d q ∗ gatZero d L ∗ Ow d L O W) -∗ Q ⟨⟩)
        -∗ WP (SparseCore.enqueueIndirectGather hp tabAll
            ((rbM.slice (Rect.unit (s := S2x128x128) oR S1x128x128.size pR) (fun _ => rfl)).squeeze S128x128 squeezes_S1x128x128_S128x128)
            gathers_S100000x128_S128x128
            ((((ibM.slice (Rect.unit (s := S2x1x128) oI S1x1x128.size pI) (fun _ => rfl)).squeeze S1x128 squeezes_S1x1x128_S1x128).slice
              (Rect.unit (s := S1x128) ![0, 0] S1x128.size inb_S1x128_S1x128_0_0) (fun _ => rfl)).squeeze S128 squeezes_S1x128_S128)
            hn cc0_scoped4.sem h₁ h₂ h₃ h₄) fun _ => WP (
          SparseCore.waitIndirectGather cc0_scoped4.sem tabAll
            ((rbM.slice (Rect.unit (s := S2x128x128) oR S1x128x128.size pR') (fun _ => rfl)).squeeze S128x128 squeezes_S1x128x128_S128x128) h₁ h₅) Q) := by
  subst hR hI
  rw [← wp_bind]
  unfold idxHas rowFree tabPts gatZero Ow
  iintro ⟨#Hmw, ⟨%f, %hf, Hi⟩, ⟨%fr, Hr⟩, Ht, Hz, ⟨%W', %hW', HO⟩⟩ Hk
  ihave Hts := (pointsTo_split_subset (q := q) (f := tab) (S := Finset.univ) (Finset.subset_univ tabAll.view.set)).1 $$ Ht
  icases Hts with ⟨Hts, Htr⟩
  ihave Hi' := (Entails.of_eq (congrArg (fun I => ((tile d L).loc cc0_scoped0 ↦[I]{fullShare} f : sProp 𝕄)) (idxList_set s).symm)) $$ Hi
  iapply (SparseCore.wp_indirectGatherLocal EC 𝒱₀ (tile d L) none (hg := gathers_S100000x128_S128x128) (default : HIx 1)
      (rowSlot s).view.dmaCredit (rowAmt_eq s _) (by decide) (idxList_lt idx hlt s b f hf)) $$ [Hts Hr Hi' Hz]
  · isplitl [Hts]; · iexact Hts
    isplitl [Hr]; · iexact Hr
    isplitl [Hi']; · iexact Hi'
    iexact Hz
  iintro Hfl
  unfold SparseCore.waitIndirectGather
  iapply (Transfers.wp_waitLocalO EC 𝒱₀ (tile d L) none (default : HIx 1) (rfl : (rowSlot s).view.dmaCredit = _)) $$ [Hfl HO]
  · isplitl [Hfl]; · iexact Hfl
    isplitl [HO]; · iexact HO
    iapply (Transfers.MayWaits.elim (SemLoc.dma cc0_scoped4.sem)) $$ Hmw
  iintro ⟨⟨Hr, Hts, Hi⟩, Hz, HO⟩
  simp only [wp_ret]
  imodintro
  iapply Hk
  isplitl [Hi]
  · unfold idxFree
    iexists f
    iapply (Entails.of_eq (congrArg (fun I => ((tile d L).loc cc0_scoped0 ↦[I]{fullShare} f : sProp 𝕄)) (idxList_set s)))
    iexact Hi
  isplitl [Hr]
  · unfold rowHas
    iexists _
    isplitr
    swap; · iexact Hr
    ipureintro
    intro x
    rw [View.read_write_univ]
    exact gathered_apply tab idx s b f hf _ _ x
  isplitl [Hts Htr]
  · iapply (pointsTo_split_subset (q := q) (f := tab) (S := Finset.univ) (Finset.subset_univ tabAll.view.set)).2
    isplitl [Hts] <;> iassumption
  isplitl [Hz]; · iexact Hz
  iexists _
  isplitr
  swap; · iexact HO
  ipureintro
  intro p hp
  rcases Finset.mem_insert.mp hp with hp | hp
  · exact .inr (hp ▸ rfl)
  · exact hW' p hp

end Cert.Proof.Gather

end
-- ==== Proof.Trip.lean ====
module

public import proofs.«01_k».proof.Proof.Steps

@[expose] public section

/-! One trip of the row gather's pipelined loop. -/

noncomputable section

namespace Cert.Proof.Gather

open Cert.KernelIdeal Cert.KernelIdeal.Gen
open Idealize.ShloMosaic Idealize.ShloMosaic.ValueIdx
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (tab : S100000x128.Idx → Elt F .f32) (idx : S1x16384.Idx → Elt F .i32) (ini : S16384x128.Idx → Elt F .f32)
variable (d : Dev nD) (L : grid0.Coords)

/-- Trip `t`'s slot, and its block of the tile at `L`. -/
def sl (t : ℕ) : Fin 2 := ⟨t % 2, Nat.mod_lt _ (by omega)⟩
def bk (L : grid0.Coords) (t : ℕ) : Fin 128 := ⟨blk L t % 128, Nat.mod_lt _ (by omega)⟩

theorem bk_val (t : Fin 4) : (bk L t).val = blk L t := Nat.mod_eq_of_lt (blk_lt L t)
theorem bk_val' (t : ℕ) (h : t < 4) : (bk L t).val = blk L t := bk_val L ⟨t, h⟩

/-- The word of the tile's first block. -/
def baseW (L : grid0.Coords) : BitVec 32 :=
  Scalar.muli (Scalar.addi (Scalar.addi 0#32 (Scalar.muli (BitVec.ofNat 32 (L 1).val) 1#32)) (Scalar.muli (BitVec.ofNat 32 (L 0).val) 16#32)) 4#32

/-- The tile's body of the loop, at its buffers. -/
def tripP (t : Fin 4) (acc : BitVec 32 × BitVec 32 × BitVec 32 × BitVec 32 × BitVec 32) :
    Prog (TpuEff nD τ sig (Elt F) Λ₀ (.scVector (cV L) (jV L))) (BitVec 32 × BitVec 32 × BitVec 32 × BitVec 32 × BitVec 32) :=
  k0_t1_body L tabM (Memref.isWhole_whole _) idxM (Memref.isWhole_whole _) outM (Memref.isWhole_whole _)
    ibM (Memref.isWhole_whole _) cc0_scoped1 rbM (Memref.isWhole_whole _) cc0_scoped3 cc0_scoped4 (baseW L) t acc

/-- What the copy of the next block needs, and what it leaves. -/
def nextPre (t : ℕ) : sProp 𝕄 := if t < 3 then iprop(idxPts idx d (bk L (t + 1)) ∗ idxFree d L (sl (t + 1)) ∗ inZero d L (sl (t + 1))) else iprop(emp)
def nextPost (t : ℕ) : sProp 𝕄 := if t < 3 then InFl idx d L (sl (t + 1)) (bk L (t + 1)) else iprop(emp)
/-- What the wait for the previous copy out needs, and what it leaves. -/
def prevPre (t : ℕ) : sProp 𝕄 := if 1 ≤ t then OutFl tab idx d L (sl (t - 1)) (bk L (t - 1)) else iprop(emp)
def prevPost (t : ℕ) : sProp 𝕄 :=
  if 1 ≤ t then iprop(outPts d (gath tab idx) (bk L (t - 1)) ∗ rowFree d L (sl (t - 1)) ∗ outZero d L (sl (t - 1))) else iprop(emp)

theorem nextPre_pos {t : ℕ} (h : t < 3) :
    nextPre (F := F) idx d L t = iprop(idxPts idx d (bk L (t + 1)) ∗ idxFree d L (sl (t + 1)) ∗ inZero d L (sl (t + 1))) := if_pos h
theorem nextPre_neg {t : ℕ} (h : ¬t < 3) : nextPre (F := F) idx d L t = iprop(emp) := if_neg h
theorem nextPost_pos {t : ℕ} (h : t < 3) : nextPost (F := F) idx d L t = InFl idx d L (sl (t + 1)) (bk L (t + 1)) := if_pos h
theorem nextPost_neg {t : ℕ} (h : ¬t < 3) : nextPost (F := F) idx d L t = iprop(emp) := if_neg h
theorem prevPre_pos {t : ℕ} (h : 1 ≤ t) : prevPre tab idx d L t = OutFl tab idx d L (sl (t - 1)) (bk L (t - 1)) := if_pos h
theorem prevPre_neg {t : ℕ} (h : ¬1 ≤ t) : prevPre tab idx d L t = iprop(emp) := if_neg h
theorem prevPost_pos {t : ℕ} (h : 1 ≤ t) : prevPost tab idx d L t
    = iprop(outPts d (gath tab idx) (bk L (t - 1)) ∗ rowFree d L (sl (t - 1)) ∗ outZero d L (sl (t - 1))) := if_pos h
theorem prevPost_neg {t : ℕ} (h : ¬1 ≤ t) : prevPost tab idx d L t = iprop(emp) := if_neg h

/-- The words the trip's first part hands on. -/
def part1W (t : Fin 4) : Σ' (_ : k0_chk3 (accW t).2.1) (_ : k0_chk2 (accW t).2.2.1)
      (_ : k0_chk1 L t (accW t).1 (accW t).2.1 (accW t).2.2.1 (accW t).2.2.2.1 (accW t).2.2.2.2)
      (_ : BitVec 32) (_ : BitVec 1) (_ : BitVec 1) (_ : BitVec 32) (_ : BitVec 32) (_ : BitVec 32) (_ : BitVec 32), BitVec 1 :=
  let iv : BitVec 32 := Scf.iv 0#32 1#32 t
  let cur : BitVec 32 := (accW t).2.2.2.2
  let v66 := Scalar.addi cur (baseW L)
  let v68 := Scalar.select 1#1 (Scalar.subi cur 1#32) cur
  let v71 := Scalar.addi (Scalar.select (Scalar.cmpi .eq v68 4294967295#32) 3#32 v68) (baseW L)
  let v73 := Scalar.select 1#1 (Scalar.addi cur 1#32) cur
  let v76 := Scalar.addi (Scalar.select (Scalar.cmpi .eq v73 4#32) 0#32 v73) (baseW L)
  let v85 := Scalar.andi (Scalar.cmpi .ne v66 v76) (Scalar.xori (Scalar.cmpi .sge iv 3#32) 1#1)
  ⟨chk3_acc t, chk2_acc t, chk1_acc L t, iv, Scalar.cmpi .eq iv 0#32, Scalar.cmpi .eq iv 3#32, v66, v71, v76,
    Scalar.select (Scalar.andi v85 1#1) (Scalar.addi (accW t).1 1#32) (accW t).1, Scalar.cmpi .ne v66 v71⟩

/-- The words the trip carries on are the next trip's. -/
theorem accW_step : ∀ (L : grid0.Coords) (t : Fin 4),
    ((part1W L t).2.2.2.2.2.2.2.2.2.fst,
      Scalar.select (Scalar.ori (Scalar.cmpi .ne (part1W L t).2.2.2.2.2.2.fst (part1W L t).2.2.2.2.2.2.2.2.fst) (part1W L t).2.2.2.2.2.fst)
        (Scalar.addi (accW t).2.1 1#32) (accW t).2.1,
      Scalar.select (Scalar.andi (Scalar.ori (Scalar.cmpi .ne (part1W L t).2.2.2.2.2.2.fst (part1W L t).2.2.2.2.2.2.2.2.fst) (part1W L t).2.2.2.2.2.fst) 1#1)
        (Scalar.addi (accW t).2.2.1 1#32) (accW t).2.2.1,
      Scalar.select (Scalar.andi (Scalar.andi (Scalar.cmpi .ne (part1W L t).2.2.2.2.2.2.fst (part1W L t).2.2.2.2.2.2.2.fst)
          (Scalar.xori (part1W L t).2.2.2.2.fst 1#1)) 1#1)
        (Scalar.addi (accW t).2.2.2.1 1#32) (accW t).2.2.2.1,
      Scalar.select (Scalar.cmpi .eq (Scalar.select 1#1 (Scalar.addi (accW t).2.2.2.2 1#32) (accW t).2.2.2.2) 4#32)
        0#32 (Scalar.select 1#1 (Scalar.addi (accW t).2.2.2.2 1#32) (accW t).2.2.2.2))
      = accW (t.val + 1) := by decide +kernel

local notation "WP" => wp frame (wpE (defs₀ (F := F)) 𝒱₀ (tile d L) none) Set.univ

theorem sl_val (t : ℕ) : (sl t).val = t % 2 := rfl

set_option maxHeartbeats 4000000 in
/-- The trip's first part: the checks hold, and the next block's indices are sent for unless there is none. -/
theorem wp_part1 (t : Fin 4) {Q : (Σ' (_ : k0_chk3 (accW t).2.1) (_ : k0_chk2 (accW t).2.2.1)
      (_ : k0_chk1 L t (accW t).1 (accW t).2.1 (accW t).2.2.1 (accW t).2.2.2.1 (accW t).2.2.2.2)
      (_ : BitVec 32) (_ : BitVec 1) (_ : BitVec 1) (_ : BitVec 32) (_ : BitVec 32) (_ : BitVec 32) (_ : BitVec 32), BitVec 1) → sProp 𝕄} :
    nextPre idx d L t
      ⊢ iprop((nextPost idx d L t -∗ Q (part1W L t))
        -∗ WP (k0_part1 L tabM (Memref.isWhole_whole _) idxM (Memref.isWhole_whole _) outM (Memref.isWhole_whole _)
          ibM (Memref.isWhole_whole _) cc0_scoped1 rbM (Memref.isWhole_whole _) cc0_scoped3 cc0_scoped4 (baseW L) 0#32 1#32 t
          (accW t).1 (accW t).2.1 (accW t).2.2.1 (accW t).2.2.2.1 (accW t).2.2.2.2) Q) := by
  unfold part1W
  iintro Hnext Hk
  simp only [k0_part1_eq_skeleton, k0_part1_skel, wp_bind]
  iapply (wp_assume 𝒱₀ (tile d L) none Set.univ (chk3_acc t))
  simp only [wp_ret]; imodintro
  iapply (wp_assume 𝒱₀ (tile d L) none Set.univ (chk2_acc t))
  simp only [wp_ret]; imodintro
  iapply (wp_assume 𝒱₀ (tile d L) none Set.univ (chk1_acc L t))
  simp only [wp_ret]; imodintro
  by_cases h : t.val < 3
  · have hc := (cond1_acc L t).mpr h
    rw [dif_pos hc]
    simp only [wp_bind]
    ihave Hnext := (Entails.of_eq (nextPre_pos idx d L h)) $$ Hnext
    iapply (wp_copyIn idx d L (sl (t.val + 1)) (bk L (t.val + 1)) (off4_eq t h)
      ((off5_eq L t h).trans (by rw [bk_val' L (t.val + 1) (by omega)])) (off6_eq t h)) $$ Hnext
    iintro Hfl
    simp only [wp_pure]; imodintro
    iapply Hk
    iapply (Entails.of_eq (nextPost_pos idx d L h).symm) $$ Hfl
  · have hc : ¬k0_cond1 L t (accW t).2.2.2.2 = 1#1 := fun e => h ((cond1_acc L t).mp e)
    rw [dif_neg hc]
    simp only [wp_pure]; imodintro
    iapply Hk
    iapply (Entails.of_eq ((nextPre_neg idx d L h).trans (nextPost_neg idx d L h).symm)) $$ Hnext

set_option maxHeartbeats 4000000 in
/-- The trip's second part: its own indices are awaited, and the rows they name gathered into its row slot. -/
theorem wp_part2 (q : PosShare TreeShare) (hlt : ∀ x, (idx x).toNat < 100000) (O : CellTallies nD τ sig (HIx 1)) (W : Waits sig (HIx 1)) (t : Fin 4)
    {h3 h2 h1} {w5 : BitVec 32} {w64 w65 : BitVec 1} {w66 w71 w76 : BitVec 32} {w96 : BitVec 1} {Q : PUnit → sProp 𝕄} :
    iprop(Transfers.MayWaits (tile d L) (default : HIx 1) O ∗ InFl idx d L (sl t) (bk L t) ∗ rowFree d L (sl t)
        ∗ tabPts tab d q ∗ gatZero d L ∗ Ow d L O W)
      ⊢ iprop((iprop(idxPts idx d (bk L t) ∗ idxFree d L (sl t) ∗ inZero d L (sl t) ∗ rowHas tab idx d L (sl t) (bk L t)
          ∗ tabPts tab d q ∗ gatZero d L ∗ Ow d L O W) -∗ Q ⟨⟩)
        -∗ WP (k0_part2 L tabM (Memref.isWhole_whole _) idxM (Memref.isWhole_whole _) outM (Memref.isWhole_whole _)
          ibM (Memref.isWhole_whole _) cc0_scoped1 rbM (Memref.isWhole_whole _) cc0_scoped3 cc0_scoped4 t
          (accW t).1 (accW t).2.1 (accW t).2.2.1 (accW t).2.2.2.1 (accW t).2.2.2.2 h3 h2 h1 w5 w64 w65 w66 w71 w76 w96) Q) := by
  iintro ⟨#Hmw, Hin, Hrow, Ht, Hg, HO⟩ Hk
  simp only [k0_part2_eq_skeleton, k0_part2_skel, ite_self]
  rw [dif_pos (cond2_acc L t)]
  simp only [wp_bind]
  iapply (wp_waitIn idx d L (sl t) (bk L t) O W (off7_eq t) (off9_eq t)) $$ [Hin HO]
  · isplitr; · iexact Hmw
    isplitl [Hin] <;> iassumption
  iintro ⟨Hi, Hx, Hz, HO⟩
  simp only [wp_pure]
  iapply (wp_gather tab idx d L (sl t) (bk L t) q hlt O W (off10_eq t) (off11_eq t)) $$ [Hi Hrow Ht Hg HO]
  · isplitr; · iexact Hmw
    isplitl [Hi]; · iexact Hi
    isplitl [Hrow]; · iexact Hrow
    isplitl [Ht]; · iexact Ht
    isplitl [Hg] <;> iassumption
  iintro ⟨Hi, Hr, Ht, Hg, HO⟩
  imodintro
  iapply Hk
  iframe

set_option maxHeartbeats 4000000 in
/-- One trip: the next block's indices are sent for, this block's are awaited and the rows they name gathered and sent
    out, the previous trip's copy out is awaited. -/
theorem wp_trip (q : PosShare TreeShare) (hlt : ∀ x, (idx x).toNat < 100000) (O : CellTallies nD τ sig (HIx 1)) (W : Waits sig (HIx 1)) (t : Fin 4) :
    iprop(Transfers.MayWaits (tile d L) (default : HIx 1) O ∗ nextPre idx d L t ∗ InFl idx d L (sl t) (bk L t)
        ∗ rowFree d L (sl t) ∗ outPts d ini (bk L t) ∗ outZero d L (sl t) ∗ prevPre tab idx d L t
        ∗ tabPts tab d q ∗ gatZero d L ∗ Ow d L O W)
      ⊢ WP (tripP L t (accW t)) fun acc => iprop(⌜acc = accW (t.val + 1)⌝ ∗ nextPost idx d L t ∗ idxPts idx d (bk L t)
        ∗ idxFree d L (sl t) ∗ inZero d L (sl t) ∗ OutFl tab idx d L (sl t) (bk L t) ∗ prevPost tab idx d L t
        ∗ tabPts tab d q ∗ gatZero d L ∗ Ow d L O W) := by
  iintro ⟨#Hmw, Hnext, Hin, Hrow, Hout, Hoz, Hprev, Ht, Hg, HO⟩
  unfold tripP k0_t1_body
  simp only [wp_bind]
  iapply (wp_part1 idx d L t) $$ Hnext
  iintro Hnext
  iapply (wp_part2 tab idx d L q hlt O W t) $$ [Hin Hrow Ht Hg HO]
  · isplitr; · iexact Hmw
    iframe
  iintro ⟨Hx, Hi, Hz, Hr, Ht, Hg, HO⟩
  simp only [ite_self]
  rw [dif_pos (cond5_acc L t)]
  simp only [wp_bind]
  iapply (wp_copyOut tab idx ini d L (sl t) (bk L t) (off12_eq t)
      ((off13_eq L t).trans (by rw [bk_val L t])) (off14_eq t)) $$ [Hr Hout Hoz]
  · iframe
  iintro Hfl
  by_cases h : 1 ≤ t.val
  · rw [dif_pos ((cond7_acc L t).mpr h)]
    simp only [wp_bind]
    simp only [wp_pure]
    ihave Hprev := (Entails.of_eq (prevPre_pos tab idx d L h)) $$ Hprev
    iapply (wp_waitOut tab idx d L (sl (t.val - 1)) (bk L (t.val - 1)) O W (off17_eq t h)) $$ [Hprev HO]
    · isplitr; · iexact Hmw
      iframe
    iintro ⟨Ho, Hrow, Hoz, HO⟩
    ihave Hprev := (Entails.of_eq (prevPost_pos tab idx d L h).symm) $$ [Ho Hrow Hoz]; · iframe
    imodintro
    isplitr; · ipureintro; exact accW_step L t
    iframe
  · rw [dif_neg (fun e => h ((cond7_acc L t).mp e))]
    simp only [wp_pure]
    ihave Hprev := (Entails.of_eq ((prevPre_neg tab idx d L h).trans (prevPost_neg tab idx d L h).symm)) $$ Hprev
    imodintro
    isplitr; · ipureintro; exact accW_step L t
    iframe

end Cert.Proof.Gather

end
-- ==== Proof.Tile.lean ====
module

public import proofs.«01_k».proof.Proof.Trip

@[expose] public section

/-! The row gather on one tile: the first fetch, the four trips, the last wait. -/

noncomputable section

namespace Cert.Proof.Gather

open Cert.KernelIdeal Cert.KernelIdeal.Gen
open Idealize.ShloMosaic Idealize.ShloMosaic.ValueIdx
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (tab : S100000x128.Idx → Elt F .f32) (idx : S1x16384.Idx → Elt F .i32) (ini : S16384x128.Idx → Elt F .f32)
variable (d : Dev nD) (L : grid0.Coords)

local notation "WP" => wp frame (wpE (defs₀ (F := F)) 𝒱₀ (tile d L) none) Set.univ

/-- What the tile holds throughout: its share of the table, the gather's semaphore, what it owes. -/
def common (q : PosShare TreeShare) (O : CellTallies nD τ sig (HIx 1)) (W : Waits sig (HIx 1)) : sProp 𝕄 :=
  iprop(tabPts tab d q ∗ gatZero d L ∗ Ow d L O W)

/-- What the tile holds besides when trip `t` starts: this trip's indices on their way, the previous trip's rows on
    theirs, the other slots free; earlier blocks done, later ones untouched. -/
def St (t : ℕ) : sProp 𝕄 :=
  match t with
  | 0 => iprop(InFl idx d L 0 (bk L 0) ∗ idxFree d L 1 ∗ inZero d L 1 ∗ rowFree d L 0 ∗ rowFree d L 1 ∗ outZero d L 0 ∗ outZero d L 1
      ∗ (idxPts idx d (bk L 1) ∗ idxPts idx d (bk L 2) ∗ idxPts idx d (bk L 3))
      ∗ (outPts d ini (bk L 0) ∗ outPts d ini (bk L 1) ∗ outPts d ini (bk L 2) ∗ outPts d ini (bk L 3)))
  | 1 => iprop(InFl idx d L 1 (bk L 1) ∗ idxFree d L 0 ∗ inZero d L 0 ∗ OutFl tab idx d L 0 (bk L 0) ∗ rowFree d L 1 ∗ outZero d L 1
      ∗ (idxPts idx d (bk L 0) ∗ idxPts idx d (bk L 2) ∗ idxPts idx d (bk L 3))
      ∗ (outPts d ini (bk L 1) ∗ outPts d ini (bk L 2) ∗ outPts d ini (bk L 3)))
  | 2 => iprop(InFl idx d L 0 (bk L 2) ∗ idxFree d L 1 ∗ inZero d L 1 ∗ OutFl tab idx d L 1 (bk L 1) ∗ rowFree d L 0 ∗ outZero d L 0
      ∗ (idxPts idx d (bk L 0) ∗ idxPts idx d (bk L 1) ∗ idxPts idx d (bk L 3))
      ∗ (outPts d (gath tab idx) (bk L 0) ∗ outPts d ini (bk L 2) ∗ outPts d ini (bk L 3)))
  | 3 => iprop(InFl idx d L 1 (bk L 3) ∗ idxFree d L 0 ∗ inZero d L 0 ∗ OutFl tab idx d L 0 (bk L 2) ∗ rowFree d L 1 ∗ outZero d L 1
      ∗ (idxPts idx d (bk L 0) ∗ idxPts idx d (bk L 1) ∗ idxPts idx d (bk L 2))
      ∗ (outPts d (gath tab idx) (bk L 0) ∗ outPts d (gath tab idx) (bk L 1) ∗ outPts d ini (bk L 3)))
  | _ => iprop(idxFree d L 0 ∗ inZero d L 0 ∗ idxFree d L 1 ∗ inZero d L 1 ∗ OutFl tab idx d L 1 (bk L 3) ∗ rowFree d L 0 ∗ outZero d L 0
      ∗ (idxPts idx d (bk L 0) ∗ idxPts idx d (bk L 1) ∗ idxPts idx d (bk L 2) ∗ idxPts idx d (bk L 3))
      ∗ (outPts d (gath tab idx) (bk L 0) ∗ outPts d (gath tab idx) (bk L 1) ∗ outPts d (gath tab idx) (bk L 2)))

theorem sl_0 : sl 0 = 0 := rfl
theorem sl_1 : sl 1 = 1 := rfl
theorem sl_2 : sl 2 = 0 := rfl
theorem sl_3 : sl 3 = 1 := rfl

section
variable (q : PosShare TreeShare) (hlt : ∀ x, (idx x).toNat < 100000) (O : CellTallies nD τ sig (HIx 1)) (W : Waits sig (HIx 1))
include hlt

/-- Each trip takes the tile from its state to the next. -/
theorem wp_step : ∀ t : Fin 4, iprop(Transfers.MayWaits (tile d L) (default : HIx 1) O ∗ common tab d L q O W ∗ St tab idx ini d L t)
      ⊢ WP (tripP L t (accW t)) fun acc => iprop(⌜acc = accW (t.val + 1)⌝
        ∗ Transfers.MayWaits (tile d L) (default : HIx 1) O ∗ common tab d L q O W ∗ St tab idx ini d L (t.val + 1)) := by
  have hw := wp_trip tab idx ini d L q hlt O W
  intro t
  match t with
  | ⟨0, ht⟩ =>
    have h := hw ⟨0, ht⟩
    simp only [nextPre_pos idx d L (show 0 < 3 by decide), nextPost_pos idx d L (show 0 < 3 by decide),
      prevPre_neg tab idx d L (show ¬1 ≤ 0 by decide), prevPost_neg tab idx d L (show ¬1 ≤ 0 by decide), Nat.zero_add, sl_0, sl_1] at h
    simp only [St, common]
    iintro ⟨#Hmw, ⟨Ht, Hg, HO⟩, Hfl, Hi1, Hz1, Hr0, Hr1, Ho0, Ho1, ⟨Hx1, Hx2, Hx3⟩, ⟨Hy0, Hy1, Hy2, Hy3⟩⟩
    ihave Hw := h $$ [Ht Hg HO Hfl Hi1 Hz1 Hr0 Ho0 Hx1 Hy0]
    · isplitr; · iexact Hmw
      iframe
    iapply (wp_wand frame _ _) $$ Hw
    iintro %acc ⟨%e, Hfl, Hx0, Hi0, Hz0, Hof, He, Ht, Hg, HO⟩
    isplitr; · ipureintro; exact e
    isplitr; · iexact Hmw
    iframe
  | ⟨1, ht⟩ =>
    have h := hw ⟨1, ht⟩
    simp only [nextPre_pos idx d L (show 1 < 3 by decide), nextPost_pos idx d L (show 1 < 3 by decide),
      prevPre_pos tab idx d L (show 1 ≤ 1 by decide), prevPost_pos tab idx d L (show 1 ≤ 1 by decide), Nat.reduceAdd, Nat.reduceSub, sl_0, sl_1, sl_2] at h
    simp only [St, common]
    iintro ⟨#Hmw, ⟨Ht, Hg, HO⟩, Hfl, Hi0, Hz0, Hof, Hr1, Ho1, ⟨Hx0, Hx2, Hx3⟩, ⟨Hy1, Hy2, Hy3⟩⟩
    ihave Hw := h $$ [Ht Hg HO Hfl Hi0 Hz0 Hof Hr1 Ho1 Hx2 Hy1]
    · isplitr; · iexact Hmw
      iframe
    iapply (wp_wand frame _ _) $$ Hw
    iintro %acc ⟨%e, Hfl, Hx1, Hi1, Hz1, Hof, ⟨Hy0, Hr0, Ho0⟩, Ht, Hg, HO⟩
    isplitr; · ipureintro; exact e
    isplitr; · iexact Hmw
    iframe
  | ⟨2, ht⟩ =>
    have h := hw ⟨2, ht⟩
    simp only [nextPre_pos idx d L (show 2 < 3 by decide), nextPost_pos idx d L (show 2 < 3 by decide),
      prevPre_pos tab idx d L (show 1 ≤ 2 by decide), prevPost_pos tab idx d L (show 1 ≤ 2 by decide), Nat.reduceAdd, Nat.reduceSub, sl_1, sl_2, sl_3] at h
    simp only [St, common]
    iintro ⟨#Hmw, ⟨Ht, Hg, HO⟩, Hfl, Hi1, Hz1, Hof, Hr0, Ho0, ⟨Hx0, Hx1, Hx3⟩, ⟨Hy0, Hy2, Hy3⟩⟩
    ihave Hw := h $$ [Ht Hg HO Hfl Hi1 Hz1 Hof Hr0 Ho0 Hx3 Hy2]
    · isplitr; · iexact Hmw
      iframe
    iapply (wp_wand frame _ _) $$ Hw
    iintro %acc ⟨%e, Hfl, Hx2, Hi0, Hz0, Hof, ⟨Hy1, Hr1, Ho1⟩, Ht, Hg, HO⟩
    isplitr; · ipureintro; exact e
    isplitr; · iexact Hmw
    iframe
  | ⟨3, ht⟩ =>
    have h := hw ⟨3, ht⟩
    simp only [nextPre_neg idx d L (show ¬3 < 3 by decide), nextPost_neg idx d L (show ¬3 < 3 by decide),
      prevPre_pos tab idx d L (show 1 ≤ 3 by decide), prevPost_pos tab idx d L (show 1 ≤ 3 by decide), Nat.reduceAdd, Nat.reduceSub, sl_2, sl_3] at h
    simp only [St, common]
    iintro ⟨#Hmw, ⟨Ht, Hg, HO⟩, Hfl, Hi0, Hz0, Hof, Hr1, Ho1, ⟨Hx0, Hx1, Hx2⟩, ⟨Hy0, Hy1, Hy3⟩⟩
    ihave Hw := h $$ [Ht Hg HO Hfl Hof Hr1 Ho1 Hy3]
    · isplitr; · iexact Hmw
      iframe
    iapply (wp_wand frame _ _) $$ Hw
    iintro %acc ⟨%e, He, Hx3, Hi1, Hz1, Hof, ⟨Hy2, Hr0, Ho0⟩, Ht, Hg, HO⟩
    isplitr; · ipureintro; exact e
    isplitr; · iexact Hmw
    iframe

/-- What the tile is given: its four blocks of the index row and of the gathered array, the latter at contents `f`. -/
def blocks (f : S16384x128.Idx → Elt F .f32) : sProp 𝕄 :=
  iprop((idxPts idx d (bk L 0) ∗ idxPts idx d (bk L 1) ∗ idxPts idx d (bk L 2) ∗ idxPts idx d (bk L 3))
    ∗ (outPts d f (bk L 0) ∗ outPts d f (bk L 1) ∗ outPts d f (bk L 2) ∗ outPts d f (bk L 3)))

/-- The tile's double buffers and their semaphores. -/
def slots : sProp 𝕄 :=
  iprop((idxFree d L 0 ∗ idxFree d L 1) ∗ (rowFree d L 0 ∗ rowFree d L 1) ∗ (inZero d L 0 ∗ inZero d L 1) ∗ (outZero d L 0 ∗ outZero d L 1))

set_option maxHeartbeats 4000000 in
/-- The whole program on a tile: its blocks of the gathered array come back holding the gathered rows. -/
theorem wp_tile :
    iprop(Transfers.MayWaits (tile d L) (default : HIx 1) O ∗ common tab d L q O W ∗ slots d L ∗ blocks idx d L ini)
      ⊢ WP (cc0_gather_kernel L tabM (Memref.isWhole_whole _) idxM (Memref.isWhole_whole _) outM (Memref.isWhole_whole _)
          ibM (Memref.isWhole_whole _) cc0_scoped1 rbM (Memref.isWhole_whole _) cc0_scoped3 cc0_scoped4)
        fun _ => iprop(common tab d L q O W ∗ slots d L ∗ blocks idx d L (gath tab idx)) := by
  simp only [slots, blocks, cc0_gather_kernel_eq_skeleton, cc0_gather_kernel_skel, k0_part3_eq_skeleton, k0_part3_skel, k0_part4_eq_skeleton,
    k0_part4_skel, wp_bind]
  iintro ⟨#Hmw, Hc, ⟨⟨Hi0, Hi1⟩, ⟨Hr0, Hr1⟩, ⟨Hz0, Hz1⟩, ⟨Ho0, Ho1⟩⟩, ⟨Hx0, Hx1, Hx2, Hx3⟩, ⟨Hy0, Hy1, Hy2, Hy3⟩⟩
  iapply (wp_copyIn idx d L 0 (bk L 0) (by decide) ((off2_eq L).trans (by rw [bk_val' L 0 (by omega)])) off3_eq) $$ [Hx0 Hi0 Hz0]
  · iframe
  iintro Hfl
  simp only [wp_pure]; imodintro
  iapply (Scf.wp_for frame _ _ k0_t1_loop.lb k0_t1_loop.ub k0_t1_loop.st k0_t1_ok _ _
    (fun k acc => iprop(⌜acc = accW k⌝ ∗ Transfers.MayWaits (tile d L) (default : HIx 1) O ∗ common tab d L q O W ∗ St tab idx ini d L k)) ?_)
  · intro k acc
    iintro ⟨%e, H⟩
    subst e
    iapply (wp_step tab idx ini d L q hlt O W k) $$ H
  isplitl [Hc Hi1 Hr0 Hr1 Hz1 Ho0 Ho1 Hx1 Hx2 Hx3 Hy0 Hy1 Hy2 Hy3 Hfl]
  · isplitr; · ipureintro; exact accW_zero
    isplitr; · iexact Hmw
    simp only [St]
    iframe
  iintro %acc ⟨%e, -, Hc, Hst⟩
  have e' : acc = accW 4 := e
  subst e'
  iapply (wp_assume 𝒱₀ (tile d L) none Set.univ (chk5_acc L))
  simp only [wp_ret]; imodintro
  iapply (wp_assume 𝒱₀ (tile d L) none Set.univ chk4_acc)
  simp only [wp_ret]; imodintro
  imodintro
  ihave Hst := (show St tab idx ini d L (Scf.trips k0_t1_loop.lb k0_t1_loop.ub k0_t1_loop.st) ⊢ St tab idx ini d L 4 from .rfl) $$ Hst
  simp only [St, common]
  icases Hst with ⟨Hi0, Hz0, Hi1, Hz1, Hof, Hr0, Ho0, Hx, ⟨Hy0, Hy1, Hy2⟩⟩
  icases Hc with ⟨Ht, Hg, HO⟩
  iapply (wp_waitOut tab idx d L 1 (bk L 3) O W off20_eq) $$ [Hof HO]
  · isplitr; · iexact Hmw
    iframe
  iintro ⟨Hy3, Hr1, Ho1, HO⟩
  imodintro
  iframe

end

end Cert.Proof.Gather

end
-- ==== Proof.Blocks.lean ====
module

public import proofs.«01_k».proof.Proof.Tile
public import Idealize.ShloMosaic.Lib.Ring
public import Idealize.ShloMosaic.Lib.Pipeline.Cells

@[expose] public section

/-! The double buffers as their two slots, the index row and the gathered array as their blocks, and the blocks dealt to
    the thirty-two tiles, four to each. -/

noncomputable section

namespace Cert.Proof.Gather

open Cert.KernelIdeal Cert.KernelIdeal.Gen
open Idealize.ShloMosaic Idealize.ShloMosaic.ValueIdx
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Which elements each place holds -/

theorem idxSlot_mem (s : Fin 2) (x : S2x1x128.Idx) : x ∈ (idxSlot s).view.set ↔ (x 0).val = s.val := by
  rw [show (idxSlot s).view.set = (Rect.unit (s := S2x1x128) ![s.val, 0, 0] S1x1x128.size (idxSlot_inb s)).set from
    (View.set_reshape _ _).trans (View.set_slice_whole _ _), Rect.mem_set_unit]
  have h1 : (x 1).val < 1 := (x 1).isLt
  have h2 : (x 2).val < 128 := (x 2).isLt
  constructor
  · intro h
    have h0 := h 0
    change s.val ≤ (x 0).val ∧ (x 0).val < s.val + 1 at h0
    omega
  · intro h a
    match a with
    | 0 => exact (show s.val ≤ (x 0).val ∧ (x 0).val < s.val + 1 by omega)
    | 1 => exact (show 0 ≤ (x 1).val ∧ (x 1).val < 0 + 1 by omega)
    | 2 => exact (show 0 ≤ (x 2).val ∧ (x 2).val < 0 + 128 by omega)

theorem rowSlot_mem (s : Fin 2) (x : S2x128x128.Idx) : x ∈ (rowSlot s).view.set ↔ (x 0).val = s.val := by
  rw [show (rowSlot s).view.set = (Rect.unit (s := S2x128x128) ![s.val, 0, 0] S1x128x128.size (rowSlot_inb s)).set from
    (View.set_reshape _ _).trans (View.set_slice_whole _ _), Rect.mem_set_unit]
  have h1 : (x 1).val < 128 := (x 1).isLt
  have h2 : (x 2).val < 128 := (x 2).isLt
  constructor
  · intro h
    have h0 := h 0
    change s.val ≤ (x 0).val ∧ (x 0).val < s.val + 1 at h0
    omega
  · intro h a
    match a with
    | 0 => exact (show s.val ≤ (x 0).val ∧ (x 0).val < s.val + 1 by omega)
    | 1 => exact (show 0 ≤ (x 1).val ∧ (x 1).val < 0 + 128 by omega)
    | 2 => exact (show 0 ≤ (x 2).val ∧ (x 2).val < 0 + 128 by omega)

theorem idxBlk_mem (b : Fin 128) (x : S1x16384.Idx) : x ∈ (idxBlk b).view.set ↔ (x 1).val / 128 = b.val := by
  rw [show (idxBlk b).view.set = (Rect.unit (s := S1x16384) ![0, 128 * b.val] S1x128.size (idxBlk_inb b)).set from
    View.set_slice_whole _ _, Rect.mem_set_unit]
  have h0 : (x 0).val < 1 := (x 0).isLt
  constructor
  · intro h
    have h1 := h 1
    change 128 * b.val ≤ (x 1).val ∧ (x 1).val < 128 * b.val + 128 at h1
    omega
  · intro h a
    match a with
    | 0 => exact (show 0 ≤ (x 0).val ∧ (x 0).val < 0 + 1 by omega)
    | 1 => exact (show 128 * b.val ≤ (x 1).val ∧ (x 1).val < 128 * b.val + 128 by omega)

theorem outBlk_mem (b : Fin 128) (x : S16384x128.Idx) : x ∈ (outBlk b).view.set ↔ (x 0).val / 128 = b.val := by
  rw [show (outBlk b).view.set = (Rect.unit (s := S16384x128) ![128 * b.val, 0] S128x128.size (outBlk_inb b)).set from
    View.set_slice_whole _ _, Rect.mem_set_unit]
  have h1 : (x 1).val < 128 := (x 1).isLt
  constructor
  · intro h
    have h0 := h 0
    change 128 * b.val ≤ (x 0).val ∧ (x 0).val < 128 * b.val + 128 at h0
    omega
  · intro h a
    match a with
    | 0 => exact (show 128 * b.val ≤ (x 0).val ∧ (x 0).val < 128 * b.val + 128 by omega)
    | 1 => exact (show 0 ≤ (x 1).val ∧ (x 1).val < 0 + 128 by omega)

/-- Sets told apart by a number of their elements are pairwise disjoint. -/
theorem disjoint_of_key {T X : Type} {A : T → Finset X} (v : T → ℕ) (hv : Function.Injective v) (key : X → ℕ)
    (h : ∀ t x, x ∈ A t ↔ key x = v t) (S : Finset T) : ∀ t ∈ S, ∀ t' ∈ S, t ≠ t' → Disjoint (A t) (A t') :=
  fun t _ t' _ hne => Finset.disjoint_left.mpr fun x hx hx' => hne (hv (((h t x).mp hx).symm.trans ((h t' x).mp hx')))

/-- They cover when the number always names one of them. -/
theorem cover_of_key {T X : Type} [Fintype T] [Fintype X] [DecidableEq X] {A : T → Finset X} (v : T → ℕ) (key : X → ℕ)
    (h : ∀ t x, x ∈ A t ↔ key x = v t) (hk : ∀ x, ∃ t, key x = v t) : (Finset.univ : Finset T).biUnion A = Finset.univ :=
  Finset.eq_univ_iff_forall.mpr fun x => Finset.mem_biUnion.mpr ((hk x).imp fun t ht => ⟨Finset.mem_univ _, (h t x).mpr ht⟩)

/-! ## Whole buffers as their parts -/

/-- A buffer, whatever it holds, is the parts of a disjoint cover of it, whatever each holds. -/
theorem pts_parts {ℓ : Loc nD τ sig} [Nonempty (Buf (Elt F) ℓ)] {T : Type} [Fintype T] [DecidableEq T] (A : T → Finset (Idx ℓ))
    (hd : ∀ t ∈ (Finset.univ : Finset T), ∀ t' ∈ (Finset.univ : Finset T), t ≠ t' → Disjoint (A t) (A t'))
    (hc : (Finset.univ : Finset T).biUnion A = Finset.univ) :
    (iprop(∃ f, ℓ ↦{fullShare} f) : sProp 𝕄) ⊣⊢ bigSep Finset.univ fun t : T => iprop(∃ f, ℓ ↦[A t]{fullShare} f) := by
  constructor
  · iintro ⟨%f, H⟩
    ihave H := (Entails.of_eq (show (ℓ ↦{fullShare} f : sProp 𝕄) = bigSep Finset.univ fun t : T => ℓ ↦[A t]{fullShare} f by
      rw [← pointsTo_biUnion Finset.univ A hd, hc])) $$ H
    iapply (show (bigSep Finset.univ fun t : T => (ℓ ↦[A t]{fullShare} f : sProp 𝕄)) ⊢ bigSep Finset.univ fun t : T => iprop(∃ f, ℓ ↦[A t]{fullShare} f) from
      bigSep_mono fun t _ => exists_intro (Φ := fun f : Buf (Elt F) ℓ => (ℓ ↦[A t]{fullShare} f : sProp 𝕄)) f) $$ H
  · refine (bigSep_exists_pi Finset.univ (fun t (f : Buf (Elt F) ℓ) => (ℓ ↦[A t]{fullShare} f : sProp 𝕄))).trans ?_
    iintro ⟨%fs, H⟩
    ihave H := (pointsTo_biUnion_join (ℓ := ℓ) (q := fullShare) (Val := Elt F) Finset.univ A fs (Classical.arbitrary _) hd) $$ H
    icases H with ⟨%g, -, Hg⟩
    rw [hc]
    iexists g; iexact Hg

variable (d : Dev nD) (L : grid0.Coords)

/-- The index double buffer is its two slots. -/
theorem idxBuf_slots [∀ e, Nonempty (Elt F e)] :
    (iprop(∃ f, (tile d L).loc cc0_scoped0 ↦{fullShare} f) : sProp 𝕄) ⊣⊢ iprop(idxFree d L 0 ∗ idxFree d L 1) := by
  have hb := pts_parts (F := F) (ℓ := (tile d L).loc cc0_scoped0) (fun s : Fin 2 => (idxSlot s).view.set)
    (disjoint_of_key (fun s : Fin 2 => s.val) Fin.val_injective (fun x : S2x1x128.Idx => (x 0).val) idxSlot_mem _)
    (cover_of_key (fun s : Fin 2 => s.val) (fun x : S2x1x128.Idx => (x 0).val) idxSlot_mem fun x => ⟨x 0, rfl⟩)
  rw [BI.bigSep_fin_two] at hb
  exact hb

/-- The row double buffer is its two slots. -/
theorem rowBuf_slots [∀ e, Nonempty (Elt F e)] :
    (iprop(∃ f, (tile d L).loc cc0_scoped2 ↦{fullShare} f) : sProp 𝕄) ⊣⊢ iprop(rowFree d L 0 ∗ rowFree d L 1) := by
  have hb := pts_parts (F := F) (ℓ := (tile d L).loc cc0_scoped2) (fun s : Fin 2 => (rowSlot s).view.set)
    (disjoint_of_key (fun s : Fin 2 => s.val) Fin.val_injective (fun x : S2x128x128.Idx => (x 0).val) rowSlot_mem _)
    (cover_of_key (fun s : Fin 2 => s.val) (fun x : S2x128x128.Idx => (x 0).val) rowSlot_mem fun x => ⟨x 0, rfl⟩)
  rw [BI.bigSep_fin_two] at hb
  exact hb

/-! ## The arrays as the tiles' blocks -/

variable (tab : S100000x128.Idx → Elt F .f32) (idx : S1x16384.Idx → Elt F .i32) (f : S16384x128.Idx → Elt F .f32)

/-- The grid point of SparseCore `c`, tile `s`. -/
def coordsV (c : Fin 2) (s : Fin 16) : grid0.Coords :=
  fun | 0 => (c : Fin (grid0.bound 0)) | 1 => (s : Fin (grid0.bound 1)) | ⟨_ + 2, h⟩ => absurd h (Nat.not_lt.2 (Nat.le_add_left _ _))

/-- The tile's number among the thirty-two. -/
def tileEquiv : Fin 2 × Fin 16 ≃ Fin 32 := finProdFinEquiv
/-- The block's number, of a tile's and one of its four. -/
def blkEquiv : Fin 32 × Fin 4 ≃ Fin 128 := finProdFinEquiv
abbrev tileNo (c : Fin 2) (s : Fin 16) : Fin 32 := tileEquiv (c, s)

theorem bk_coords (c : Fin 2) (s : Fin 16) (t : Fin 4) :
    bk (coordsV c s) t.val = blkEquiv (tileNo c s, t) := by
  apply Fin.ext
  rw [bk_val]
  show 4 * (s.val + 16 * c.val) + t.val = t.val + 4 * (s.val + 16 * c.val)
  omega

/-- A conjunction over pairs is one over the first of those over the second. -/
theorem bigSep_pairs {A B : Type} [Fintype A] [Fintype B] (Φ : A × B → sProp 𝕄) :
    bigSep Finset.univ Φ = bigSep Finset.univ fun a => bigSep Finset.univ fun b => Φ (a, b) := by
  rw [← Pipeline.bigSep_sigma Finset.univ (fun _ : A => (Finset.univ : Finset B)) (fun p => Φ (p.1, p.2)), Finset.univ_sigma_univ,
    bigSep_univ_equiv (Equiv.sigmaEquivProd A B).symm fun p : (_ : A) × B => Φ (p.1, p.2)]
  rfl

theorem bigSep_tiles (Φ : Fin 32 → sProp 𝕄) :
    bigSep Finset.univ Φ = bigSep Finset.univ fun c : Fin 2 => bigSep Finset.univ fun s : Fin 16 => Φ (tileNo c s) := by
  rw [bigSep_univ_equiv tileEquiv Φ, bigSep_pairs]

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A conjunction over the blocks is one over the tiles, four blocks each. -/
theorem bigSep_blocks (Φ : Fin 128 → sProp 𝕄) :
    bigSep Finset.univ Φ = bigSep Finset.univ fun c : Fin 2 => bigSep Finset.univ fun s : Fin 16 =>
      iprop(Φ (bk (coordsV c s) 0) ∗ Φ (bk (coordsV c s) 1) ∗ Φ (bk (coordsV c s) 2) ∗ Φ (bk (coordsV c s) 3)) := by
  rw [bigSep_univ_equiv blkEquiv Φ, bigSep_pairs, bigSep_tiles]
  refine bigSep_congr fun c _ => bigSep_congr fun s _ => ?_
  rw [bigSep_four, ← bk_coords c s 0, ← bk_coords c s 1, ← bk_coords c s 2, ← bk_coords c s 3]
  rfl

theorem idx_blocks : (idxLoc d ↦{fullShare} idx : sProp 𝕄) = bigSep Finset.univ fun b : Fin 128 => idxPts idx d b := by
  have h := pointsTo_biUnion (Ix := HIx 1) (Val := Elt F) (Name := ℕ) (U := UU) (Lvl := ℕ) (ℓ := idxLoc d) (q := fullShare) (f := idx) Finset.univ (fun b : Fin 128 => (idxBlk b).view.set)
    (disjoint_of_key (fun b : Fin 128 => b.val) Fin.val_injective (fun x : S1x16384.Idx => (x 1).val / 128) idxBlk_mem _)
  rw [cover_of_key (fun b : Fin 128 => b.val) (fun x : S1x16384.Idx => (x 1).val / 128) idxBlk_mem
    fun x => ⟨⟨(x 1).val / 128, by have : (x 1).val < 16384 := (x 1).isLt; omega⟩, rfl⟩] at h
  exact h

theorem out_blocks : (outLoc d ↦{fullShare} f : sProp 𝕄) = bigSep Finset.univ fun b : Fin 128 => outPts d f b := by
  have h := pointsTo_biUnion (Ix := HIx 1) (Val := Elt F) (Name := ℕ) (U := UU) (Lvl := ℕ) (ℓ := outLoc d) (q := fullShare) (f := f) Finset.univ (fun b : Fin 128 => (outBlk b).view.set)
    (disjoint_of_key (fun b : Fin 128 => b.val) Fin.val_injective (fun x : S16384x128.Idx => (x 0).val / 128) outBlk_mem _)
  rw [cover_of_key (fun b : Fin 128 => b.val) (fun x : S16384x128.Idx => (x 0).val / 128) outBlk_mem
    fun x => ⟨⟨(x 0).val / 128, by have : (x 0).val < 16384 := (x 0).isLt; omega⟩, rfl⟩] at h
  exact h

/-- Tile `(c, s)`'s read share of the table. -/
abbrev tabShare (c : Fin 2) (s : Fin 16) : PosShare TreeShare := Transfers.shareTok fullShare 32 (tileNo c s)

/-- What tile `(c, s)` is handed and hands back: its share of the table, its blocks of the index row, and its blocks of
    the gathered array, these at contents `f`. -/
def tilePay (c : Fin 2) (s : Fin 16) : sProp 𝕄 := iprop(tabPts tab d (tabShare c s) ∗ blocks idx d (coordsV c s) f)

/-- The three arrays whole are what the tiles are handed and a remaining share of the table. -/
theorem arrays_tiles :
    iprop((tabLoc d ↦{fullShare} tab) ∗ (idxLoc d ↦{fullShare} idx) ∗ outLoc d ↦{fullShare} f)
      ⊣⊢ (iprop((tabLoc d ↦{Transfers.shareDrop fullShare 32} tab)
        ∗ bigSep Finset.univ fun c : Fin 2 => bigSep Finset.univ fun s : Fin 16 => tilePay d tab idx f c s) : sProp 𝕄) := by
  have ht := Transfers.pointsTo_toks (Ix := HIx 1) (Val := Elt F) (Name := ℕ) (U := UU) (Lvl := ℕ) (ℓ := tabLoc d) (S := Finset.univ) (f := tab) fullShare 32
  rw [bigSep_tiles] at ht
  have e : (bigSep Finset.univ fun c : Fin 2 => bigSep Finset.univ fun s : Fin 16 => tilePay d tab idx f c s)
      = (iprop((bigSep Finset.univ fun c : Fin 2 => bigSep Finset.univ fun s : Fin 16 => tabLoc d ↦{tabShare c s} tab)
        ∗ (idxLoc d ↦{fullShare} idx) ∗ outLoc d ↦{fullShare} f) : sProp 𝕄) := by
    rw [idx_blocks, out_blocks, bigSep_blocks, bigSep_blocks]
    simp only [← bigSep_sep']
    rfl
  rw [e]
  constructor
  · iintro ⟨Ht, Hi, Ho⟩
    ihave Ht := ht.1 $$ Ht
    icases Ht with ⟨Hd, Ht⟩
    iframe
  · iintro ⟨Hd, Ht, Hi, Ho⟩
    isplitl [Hd Ht]
    · iapply ht.2
      iframe
    iframe

end Cert.Proof.Gather

end
-- ==== Proof.Payload.lean ====
module

public import proofs.«01_k».proof.Proof.Blocks

@[expose] public section

/-! The SparseCore call as the launch theorem takes it: what its handshakes carry, each tile's task from what its thread
    owns, and how the call's operands split among the tiles. -/

noncomputable section

namespace Cert.Proof.Gather

open Cert.KernelIdeal Cert.KernelIdeal.Gen
open Idealize.ShloMosaic Idealize.ShloMosaic.ValueIdx
open Idealize.ShloMosaic.SparseCore (S V)
open Idealize.ShloMosaic.SparseCore.Cfg (HIx ownSems0 ownBufs ownCells mem_ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What a tile's thread owns -/

section Owned

variable (d : Dev nD) (L : grid0.Coords)

/-- A cell of the tile's. -/
abbrev cell (s : DmaSem sig) : GSem nD τ sig := (tile d L, .dma s)

theorem mem_cells (s : DmaSem sig) (h : (SemLoc.dma s : SemLoc sig).isScoped .scVector = true) : cell d L s ∈ ownCells (tile d L) :=
  (mem_ownCells (g := cell d L s)).mpr ⟨rfl, h⟩

theorem cell_ne {s s' : DmaSem sig} (h : s ≠ s') : cell d L s ≠ cell d L s' := fun e => h (by cases e; rfl)

/-- The tile's semaphores are the five of the call and the rest. -/
theorem ownSems_slots :
    (ownSems0 (tile d L) : sProp 𝕄)
      = iprop(inZero d L 0 ∗ inZero d L 1 ∗ outZero d L 0 ∗ outZero d L 1 ∗ gatZero d L
          ∗ bigSep ((((((ownCells (tile d L)).erase (cell d L (inSem 0))).erase (cell d L (inSem 1))).erase (cell d L (outSem 0))).erase
              (cell d L (outSem 1))).erase (cell d L cc0_scoped4.sem)) fun g => semVal g 0) := by
  have n (s s' : DmaSem sig) (h : s ≠ s') {T : Finset (GSem nD τ sig)} (hT : cell d L s ∈ T) : cell d L s ∈ T.erase (cell d L s') :=
    Finset.mem_erase.mpr ⟨cell_ne d L h, hT⟩
  unfold SparseCore.Cfg.ownSems0
  rw [SparseCore.bigSep_erase' (mem_cells d L (inSem 0) (by decide)),
    SparseCore.bigSep_erase' (n (inSem 1) _ (by decide) (mem_cells d L (inSem 1) (by decide))),
    SparseCore.bigSep_erase' (n (outSem 0) _ (by decide) (n _ _ (by decide) (mem_cells d L (outSem 0) (by decide)))),
    SparseCore.bigSep_erase' (n (outSem 1) _ (by decide) (n _ _ (by decide) (n _ _ (by decide) (mem_cells d L (outSem 1) (by decide))))),
    SparseCore.bigSep_erase' (n cc0_scoped4.sem _ (by decide) (n _ _ (by decide) (n _ _ (by decide) (n _ _ (by decide)
      (mem_cells d L cc0_scoped4.sem (by decide))))))]
  rfl

/-- The tile's buffers are its two double buffers and the rest. -/
theorem ownBufs_slots :
    (ownBufs (tile d L) : sProp 𝕄)
      = iprop((∃ f, (tile d L).loc cc0_scoped0 ↦{fullShare} f) ∗ (∃ f, (tile d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

end Owned

/-! ## The handshakes -/

variable (tabs : Dev nD → S100000x128.Idx → Elt F .f32) (idxs : Dev nD → S1x16384.Idx → Elt F .i32)
variable (inis : Dev nD → S16384x128.Idx → Elt F .f32)

/-- What tile `(c, s)` is handed: its blocks of the gathered array at what the array held; -/
abbrev goPay (d : Dev nD) (c : Fin 2) (s : Fin 16) : sProp 𝕄 := tilePay d (tabs d) (idxs d) (inis d) c s
/-- and hands back: its blocks of the gathered array at the gathered rows. -/
abbrev tdPay (d : Dev nD) (c : Fin 2) (s : Fin 16) : sProp 𝕄 := tilePay d (tabs d) (idxs d) (gath (tabs d) (idxs d)) c s

/-- The call takes, for each SparseCore, what its sixteen tiles take, and gives what they give. -/
def P : (K (F := F)).Pay (nD := nD) (Val := Elt F) (Name := ℕ) (U := UU) where
  st := fun q d c => match q with | 0 => bigSep Finset.univ fun s : Fin 16 => goPay tabs idxs inis d (Fin.cast nCore_zero c) s
  dn := fun q d c => match q with | 0 => bigSep Finset.univ fun s : Fin 16 => tdPay tabs idxs d (Fin.cast nCore_zero c) s
  go := fun q d c i => match q with | 0 => goPay tabs idxs inis d (Fin.cast nCore_zero c) (Fin.cast nSub_zero i)
  td := fun q d c i => match q with | 0 => tdPay tabs idxs d (Fin.cast nCore_zero c) (Fin.cast nSub_zero i)
  x := fun _ _ => iprop(emp)

instance tilePay_storable (d : Dev nD) (tab : S100000x128.Idx → Elt F .f32) (idx : S1x16384.Idx → Elt F .i32)
    (f : S16384x128.Idx → Elt F .f32) (c : Fin 2) (s : Fin 16) : BI.Storable (upEmb : UEmb _ 𝕄) (tilePay d tab idx f c s) := by
  unfold tilePay blocks tabPts idxPts outPts; infer_instance

instance P_storable : (P (F := F) tabs idxs inis).IsStorable where
  st q d c := match q with
    | 0 => (inferInstance : BI.Storable (upEmb : UEmb _ 𝕄) (bigSep Finset.univ fun s : Fin 16 => goPay tabs idxs inis d (Fin.cast nCore_zero c) s))
  dn q d c := match q with
    | 0 => (inferInstance : BI.Storable (upEmb : UEmb _ 𝕄) (bigSep Finset.univ fun s : Fin 16 => tdPay tabs idxs d (Fin.cast nCore_zero c) s))
  go q d c i := match q with
    | 0 => (inferInstance : BI.Storable (upEmb : UEmb _ 𝕄) (goPay tabs idxs inis d (Fin.cast nCore_zero c) (Fin.cast nSub_zero i)))
  td q d c i := match q with
    | 0 => (inferInstance : BI.Storable (upEmb : UEmb _ 𝕄) (tdPay tabs idxs d (Fin.cast nCore_zero c) (Fin.cast nSub_zero i)))

/-! ## A tile's task -/

/-- The task of tile `(c, s)`, from what its thread owns and is handed. -/
theorem tile_body [∀ e, Nonempty (Elt F e)] (d : Dev nD) (c : Fin 2) (s : Fin 16) (hlt : ∀ x, (idxs d x).toNat < 100000)
    (O : CellTallies nD τ sig (HIx 1)) (W : Waits sig (HIx 1)) (hO : ∀ g, O g none = 0) :
    iprop(levAts (K (F := F)).L (K (F := F)).lev ∗ emp ∗ goPay tabs idxs inis d c s
        ∗ scopedBufs (tile d (coordsV c s)) ∗ scopedSems0 (tile d (coordsV c s)) ∗ owes (tile d (coordsV c s)) O W)
      ⊢ wp frame (wpE (defs₀ (F := F)) 𝒱₀ (tile d (coordsV c s)) none) Set.univ
          (cc0_gather_kernel (coordsV c s) tabM (Memref.isWhole_whole _) idxM (Memref.isWhole_whole _) outM (Memref.isWhole_whole _)
            ibM (Memref.isWhole_whole _) cc0_scoped1 rbM (Memref.isWhole_whole _) cc0_scoped3 cc0_scoped4)
          fun _ => iprop(tdPay tabs idxs d c s ∗ scopedBufs (tile d (coordsV c s)) ∗ scopedSems0 (tile d (coordsV c s))
            ∗ ∃ W', ⌜∀ p ∈ W', p ∈ W ∨ p.2 = none⌝ ∗ owes (tile d (coordsV c s)) O W') := by
  have hw := wp_tile (tabs d) (idxs d) (inis d) d (coordsV c s) (tabShare c s) hlt O W
  generalize hL : coordsV c s = L at *
  rw [(K (F := F)).scopedBufs_V facts d (cV L) (jV L), SparseCore.Cfg.scopedSems0_V (Val := Elt F) d (cV L) (jV L), ownSems_slots, ownBufs_slots]
  unfold goPay tdPay tilePay
  rw [hL]
  iintro ⟨#Hlv, -, ⟨Ht, Hb⟩, ⟨Hi, Hr, Hbufs⟩, ⟨Hz0, Hz1, Ho0, Ho1, Hg, Hsems⟩, HO⟩
  ihave Hmw := (show levAts (K (F := F)).L (K (F := F)).lev ⊢ Transfers.MayWaits (tile d L) (default : HIx 1) O from
    (K (F := F)).mayWaits_none (thr := tile d L) hO) $$ Hlv
  ihave Hi := (idxBuf_slots d L).1 $$ Hi
  ihave Hr := (rowBuf_slots d L).1 $$ Hr
  ihave Hw := hw $$ [Ht Hb Hi Hr Hz0 Hz1 Ho0 Ho1 Hg HO]
  · isplitr; · iexact Hmw
    unfold common slots Ow
    iframe
    iexists W
    isplitr; · ipureintro; exact fun p hp => .inl hp
    iexact HO
  iapply (wp_wand frame _ _) $$ Hw
  iintro %_ H
  unfold common slots Ow
  icases H with ⟨⟨Ht, Hg, HO⟩, ⟨Hi, Hr, ⟨Hz0, Hz1⟩, ⟨Ho0, Ho1⟩⟩, Hb⟩
  ihave Hi := (idxBuf_slots d L).2 $$ Hi
  ihave Hr := (rowBuf_slots d L).2 $$ Hr
  iframe

/-- A tile's program is the gather kernel at its grid point. -/
theorem defs₀_vector (c : Fin 2) (s : Fin 16) :
    defs₀ (F := F) (.scVector (cV (coordsV c s)) (jV (coordsV c s))) 0 ()
      = cc0_gather_kernel (coordsV c s) tabM (Memref.isWhole_whole _) idxM (Memref.isWhole_whole _) outM (Memref.isWhole_whole _)
            ibM (Memref.isWhole_whole _) cc0_scoped1 rbM (Memref.isWhole_whole _) cc0_scoped3 cc0_scoped4 := by
  show SparseCore.onTile hcore0 hsub0 (fun c s => cc0_gather_kernel (coordsV c s) tabM (Memref.isWhole_whole _) idxM (Memref.isWhole_whole _)
    outM (Memref.isWhole_whole _) ibM (Memref.isWhole_whole _) cc0_scoped1 rbM (Memref.isWhole_whole _) cc0_scoped3 cc0_scoped4) ⟨⟩ _ _ = _
  have h : ((cV (coordsV c s)).val < grid0.bound 0) ∧ ((jV (coordsV c s)).val < grid0.bound 1) := ⟨c.isLt, s.isLt⟩
  simp only [SparseCore.onTile, h, and_self, ↓reduceDIte]
  rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe
  iexists W'
  isplitr
  · ipureintro; exact fun p hp => (hW' p hp).imp_right Or.inl
  iexact HO

set_option maxRecDepth 16384 in
/-- Every tile meets its obligation, when every word of the index row names a row of the table. -/
theorem tileObl [∀ e, Nonempty (Elt F e)] (hlt : ∀ d x, (idxs d x).toNat < 100000) :
    (K (F := F)).TileObl (D (F := F)) 𝒱 (P tabs idxs inis) v₀ 0 := by
  intro d c i O W hO _ _
  simp only [show (P tabs idxs inis).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hd := defs₀_vector (F := F) (Fin.cast nCore_zero c) (Fin.cast nSub_zero i)
  rw [show defs₀ (F := F) (.scVector ((K (F := F)).core 0 c) ((K (F := F)).sub 0 i)) 0 () = _ from hd]
  exact (tile_body tabs idxs inis d (Fin.cast nCore_zero c) (Fin.cast nSub_zero i) (hlt d) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands are its tiles'. -/
theorem vecSplit : (K (F := F)).VecSplit' (P tabs idxs inis) 0 := by
  intro d c
  show (bigSep Finset.univ fun s : Fin 16 => goPay tabs idxs inis d (Fin.cast nCore_zero c) s) ⊢ |={Set.univ}=> iprop(
      (bigSep Finset.univ fun i : Fin ((K (F := F)).nSub 0) => goPay tabs idxs inis d (Fin.cast nCore_zero c) (Fin.cast nSub_zero i))
      ∗ ((bigSep Finset.univ fun i : Fin ((K (F := F)).nSub 0) => tdPay tabs idxs d (Fin.cast nCore_zero c) (Fin.cast nSub_zero i))
          -∗ bigSep Finset.univ fun s : Fin 16 => tdPay tabs idxs d (Fin.cast nCore_zero c) s))
  rw [bigSep_tasks (F := F) (fun s => goPay tabs idxs inis d (Fin.cast nCore_zero c) s),
    bigSep_tasks (F := F) (fun s => tdPay tabs idxs d (Fin.cast nCore_zero c) s)]
  iintro H; imodintro
  isplitl [H]; · iexact H
  iintro H; iexact H

/-- What the call takes of the SparseCores, and gives, over the pairs of SparseCore and tile. -/
theorem st_eq (d : Dev nD) : (bigSep Finset.univ fun c : Fin ((K (F := F)).nCore 0) => (P tabs idxs inis).st 0 d c)
    = bigSep Finset.univ fun c : Fin 2 => bigSep Finset.univ fun s : Fin 16 => goPay tabs idxs inis d c s :=
  bigSep_congr fun _ _ => rfl
theorem dn_eq (d : Dev nD) : (bigSep Finset.univ fun c : Fin ((K (F := F)).nCore 0) => (P tabs idxs inis).dn 0 d c)
    = bigSep Finset.univ fun c : Fin 2 => bigSep Finset.univ fun s : Fin 16 => tdPay tabs idxs d c s :=
  bigSep_congr fun _ _ => rfl

end Cert.Proof.Gather

end
-- ==== Proof.Mlp.lean ====
module

public import proofs.«01_k».proof.Proof.Payload
public import Idealize.ShloMosaic.Lib.Pipeline.RegionArrays
public import Idealize.ShloMosaic.Lib.Pipeline.FrameBody
public import Idealize.ShloMosaic.Lib.Pipeline.Value
public import Idealize.ShloMosaic.Lib.VecWindow

@[expose] public section

/-! The pipelined call's body: what it computes from the staged blocks. -/

noncomputable section

namespace Cert.Proof.Gather

open Cert.KernelIdeal Cert.KernelIdeal.Gen
open Idealize.ShloMosaic Idealize.ShloMosaic.TcCoe
open Idealize.ShloMosaic.Pipeline (Dat Cfg Window BodyObligation cellOf)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The body -/

theorem zero_pair : (![0, 0] : Fin 2 → Nat) = fun _ => 0 := funext fun a => by fin_cases a <;> rfl

/-- A load of a whole buffer reads what it holds. -/
theorem read_full {sp : Space} {S : Shape} {e : EltTy} (M : Memref sig .tc sp S e) {off : Fin S.rank → ℕ} (h : off = fun _ => 0)
    (inb : ∀ a, off a + S.size a ≤ S.size a) (f : M.view.ty.Contents (Elt F)) :
    (M.access (Rect.unit off S.size inb)).read (Elt F) f = M.view.read (Elt F) f :=
  View.ld_unit_zero h inb (M.view.read (Elt F) f)

/-- A store over a whole buffer leaves what was stored. -/
theorem read_stored {sp : Space} {S : Shape} {e : EltTy} (M : Memref sig .tc sp S e) {off : Fin S.rank → ℕ}
    (inb : ∀ a, off a + S.size a ≤ S.size a) (f : M.view.ty.Contents (Elt F)) (w : S.Idx → Elt F e) :
    M.view.read (Elt F) ((M.access (Rect.unit off S.size inb)).write (Elt F) f w Finset.univ) = w :=
  View.read_writes_full M.view f inb w []

/-- A body that only returns. -/
theorem wp_done (c : Dev nD) (E : Set ℕ) (Q : PUnit → sProp 𝕄) :
    Q ⟨⟩ ⊢ wp frame (wpE (defs₀ (F := F)) 𝒱₀ (c : Thread nD τ) none) E ((Prog.ret PUnit.unit).bind fun _ => pure PUnit.unit) Q := by
  rw [show ((Prog.ret PUnit.unit : Prog (TpuEff nD τ sig (Elt F) Λ₀ .tc) PUnit).bind fun _ => pure PUnit.unit) = Prog.ret PUnit.unit from rfl, wp_ret]
  exact fupd_intro

section Body

variable (c : Dev nD) (i : grid1.Coords)

set_option maxHeartbeats 2000000 in
/-- The body over the staged blocks: the inputs stay, the result's buffer ends at the layers' value. -/
theorem wp_mlp (M1 : Memref sig .tc .vmem S8192x128 .f32) (h1 : M1.IsWhole) (M2 : Memref sig .tc .vmem S128x128 .f32) (h2 : M2.IsWhole)
    (M3 : Memref sig .tc .vmem S1x128 .f32) (h3 : M3.IsWhole) (M4 : Memref sig .tc .vmem S128x64 .f32) (h4 : M4.IsWhole)
    (M5 : Memref sig .tc .vmem S1x64 .f32) (h5 : M5.IsWhole) (M6 : Memref sig .tc .vmem S64x1 .f32) (h6 : M6.IsWhole)
    (M7 : Memref sig .tc .vmem S1x1 .f32) (h7 : M7.IsWhole) (M8 : Memref sig .tc .vmem S8192x1 .f32) (h8 : M8.IsWhole)
    (X1 : Vec F S8192x128 .f32) (X2 : Vec F S128x128 .f32) (X3 : Vec F S1x128 .f32) (X4 : Vec F S128x64 .f32) (X5 : Vec F S1x64 .f32)
    (X6 : Vec F S64x1 .f32) (X7 : Vec F S1x1 .f32) (d : Vec F S8192x1 .f32) (E : Set ℕ) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare X7 ∗ owns (c : Thread nD τ) M8 fullShare d)
      ⊢ iprop((iprop(owns (c : Thread nD τ) M1 fullShare X1 ∗ owns (c : Thread nD τ) M2 fullShare X2 ∗ owns (c : Thread nD τ) M3 fullShare X3
          ∗ owns (c : Thread nD τ) M4 fullShare X4 ∗ owns (c : Thread nD τ) M5 fullShare X5 ∗ owns (c : Thread nD τ) M6 fullShare X6
          ∗ owns (c : Thread nD τ) M7 fullShare X7 ∗ owns (c : Thread nD τ) M8 fullShare (k1_pay1 X1 X2 X3 X4 X5 X6 X7)) -∗ Q ⟨⟩)
        -∗ wp frame (wpE (defs₀ (F := F)) 𝒱₀ (c : Thread nD τ) none) E (cc1__mlp_body i M1 h1 M2 h2 M3 h3 M4 h4 M5 h5 M6 h6 M7 h7 M8 h8) Q) := by
  rw [cc1__mlp_body_eq_skeleton]
  unfold owns cc1__mlp_body_skel
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, -, H8⟩⟩ Hk
  iapply (wp_load_rect 𝒱₀ (c : Thread nD τ) none E (m := M1) (r := Rect.unit (s := S8192x128) ![0, 0] S8192x128.size inb_S8192x128_S8192x128_0_0) (View.set_slice_subset _ _)) $$ H1
  iintro H1
  iapply (wp_load_rect 𝒱₀ (c : Thread nD τ) none E (m := M2) (r := Rect.unit (s := S128x128) ![0, 0] S128x128.size inb_S128x128_S128x128_0_0) (View.set_slice_subset _ _)) $$ H2
  iintro H2
  iapply (wp_load_rect 𝒱₀ (c : Thread nD τ) none E (m := M3) (r := Rect.unit (s := S1x128) ![0, 0] S1x128.size inb_S1x128_S1x128_0_0) (View.set_slice_subset _ _)) $$ H3
  iintro H3
  iapply (wp_load_rect 𝒱₀ (c : Thread nD τ) none E (m := M4) (r := Rect.unit (s := S128x64) ![0, 0] S128x64.size inb_S128x64_S128x64_0_0) (View.set_slice_subset _ _)) $$ H4
  iintro H4
  iapply (wp_load_rect 𝒱₀ (c : Thread nD τ) none E (m := M5) (r := Rect.unit (s := S1x64) ![0, 0] S1x64.size inb_S1x64_S1x64_0_0) (View.set_slice_subset _ _)) $$ H5
  iintro H5
  iapply (wp_load_rect 𝒱₀ (c : Thread nD τ) none E (m := M6) (r := Rect.unit (s := S64x1) ![0, 0] S64x1.size inb_S64x1_S64x1_0_0) (View.set_slice_subset _ _)) $$ H6
  iintro H6
  iapply (wp_load_rect 𝒱₀ (c : Thread nD τ) none E (m := M7) (r := Rect.unit (s := S1x1) ![0, 0] S1x1.size inb_S1x1_S1x1_0_0) (View.set_slice_subset _ _)) $$ H7
  iintro H7
  iapply (wp_load_rect 𝒱₀ (c : Thread nD τ) none E (m := M8) (r := Rect.unit (s := S8192x1) ![0, 0] S8192x1.size inb_S8192x1_S8192x1_0_0) (View.set_slice_subset _ _)) $$ H8
  iintro H8
  iapply (wp_store 𝒱₀ (c : Thread nD τ) none E (m := M8) (r := Rect.unit (s := S8192x1) ![0, 0] S8192x1.size inb_S8192x1_S8192x1_0_0) (Mk := Finset.univ) (View.set_slice_subset _ _)) $$ H8
  iintro H8
  rw [read_full M1 zero_pair, read_full M2 zero_pair, read_full M3 zero_pair, read_full M4 zero_pair, read_full M5 zero_pair,
    read_full M6 zero_pair, read_full M7 zero_pair, e1, e2, e3, e4, e5, e6, e7]
  iapply (wp_done c E Q)
  iapply Hk
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  isplitl [H7]; · iexists f7; isplitr; (· ipureintro; exact e7); iexact H7
  iexists _; isplitr; swap; (· iexact H8); ipureintro; exact read_stored M8 _ _ _

end Body

end Cert.Proof.Gather

end
-- ==== Proof.Region.lean ====
module

public import proofs.«01_k».proof.Proof.Mlp
public import Idealize.ShloMosaic.Lib.Pipeline.RegionArrays
public import Idealize.ShloMosaic.Lib.Pipeline.FrameBody
public import Idealize.ShloMosaic.Lib.Pipeline.Value
public import Idealize.ShloMosaic.Lib.VecWindow

@[expose] public section

/-! The pipelined call's region: its proof data and the call among the SparseCore call's labels. -/

noncomputable section

namespace Cert.Proof.Gather

open Cert.KernelIdeal Cert.KernelIdeal.Gen
open Idealize.ShloMosaic Idealize.ShloMosaic.TcCoe
open Idealize.ShloMosaic.Pipeline (Dat Cfg Window BodyObligation cellOf)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The proof data -/

variable (V : (c : Dev nD) → (b : Ref sig .tc) → Buf (Elt F) ((c : Thread nD τ).loc b))

/-- Window `w`'s block of its array at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The layers' value of point `t`'s blocks. -/
def mlpBlk (c : Dev nD) (t : Fin cfg1.N) : FVec F S8192x1 .f32 :=
  k1_pay1 (blk1 V c 0 t) (blk1 V c 1 t) (blk1 V c 2 t) (blk1 V c 3 t) (blk1 V c 4 t) (blk1 V c 5 t) (blk1 V c 6 t)

/-- The waits a TensorCore may have recorded once the SparseCore call is over. -/
def seen (c : Dev nD) : Set (SemLoc sig × HIx 1) := {p | (K (F := F)).lev (SparseCore.T c, p.1) p.2 ≤ 8}

/-- The proof data: the inputs' buffers stay at their blocks, the result's ends at the layers' value of them. -/
def dat1 (c : Dev nD) : Dat τ (Elt F) (HIx 1) ℕ UU ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => mlpBlk V c t
  Φ _ := BI.emp
  q _ := fullShare
  owed _ := 0
  recorded _ := seen (F := F) c

/-- An input's buffer holds its block when the body runs, fetched at that point or not. -/
theorem before1 (c : Dev nD) (w : Fin cfg1.W) (hw : (cfg1.win w).isOut = false)
    (hk : ∀ t, (cfg1.win w).cut (cfg1.grid.coords t) ((dat1 V c).after w t) = (dat1 V c).blockOf w t) (hc : ∀ t t' : Fin cfg1.N, (cfg1.win w).clip (cfg1.grid.coords t) = (cfg1.win w).clip (cfg1.grid.coords t'))
    (t : Fin cfg1.N) (d : (cfg1.win w).block.Idx → Elt F (cfg1.win w).elt) : (dat1 V c).before w t d = (dat1 V c).fetched w t d :=
  (dat1 V c).before_in_eq_fetched w hw (fun _ => rfl) (fun _ _ _ => hc _ _) hk t d

theorem before1_0 (c : Dev nD) (t : Fin cfg1.N) (d) : (dat1 V c).before 0 t d = blk1 V c 0 t := before1 V c 0 rfl (fun _ => rfl) (fun _ _ => rfl) t d
theorem before1_1 (c : Dev nD) (t : Fin cfg1.N) (d) : (dat1 V c).before 1 t d = blk1 V c 1 t := before1 V c 1 rfl (fun _ => rfl) (fun _ _ => rfl) t d
theorem before1_2 (c : Dev nD) (t : Fin cfg1.N) (d) : (dat1 V c).before 2 t d = blk1 V c 2 t := before1 V c 2 rfl (fun _ => rfl) (fun _ _ => rfl) t d
theorem before1_3 (c : Dev nD) (t : Fin cfg1.N) (d) : (dat1 V c).before 3 t d = blk1 V c 3 t := before1 V c 3 rfl (fun _ => rfl) (fun _ _ => rfl) t d
theorem before1_4 (c : Dev nD) (t : Fin cfg1.N) (d) : (dat1 V c).before 4 t d = blk1 V c 4 t := before1 V c 4 rfl (fun _ => rfl) (fun _ _ => rfl) t d
theorem before1_5 (c : Dev nD) (t : Fin cfg1.N) (d) : (dat1 V c).before 5 t d = blk1 V c 5 t := before1 V c 5 rfl (fun _ => rfl) (fun _ _ => rfl) t d
theorem before1_6 (c : Dev nD) (t : Fin cfg1.N) (d) : (dat1 V c).before 6 t d = blk1 V c 6 t := before1 V c 6 rfl (fun _ => rfl) (fun _ _ => rfl) t d

/-- The body's obligation at every point. -/
theorem body1 (c : Dev nD) : BodyObligation (dat1 V c) (defs₀ (F := F)) 𝒱₀ (none : HIx 1) Set.univ := fun t => by
  rw [bigSep_W1, bigSep_W1]
  rw [show (dat1 V c).Φ t.castSucc = (BI.emp : sProp 𝕄) from rfl, show (dat1 V c).Φ t.succ = (BI.emp : sProp 𝕄) from rfl,
    show (dat1 V c).owesAt (none : HIx 1) t.succ = (dat1 V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before1_0, before1_1, before1_2, before1_3, before1_4, before1_5, before1_6]
  iapply (wp_mlp c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)) (st1_4 t) (hstage1_4 ((cfg1.slots t 4).cast nbuf1_4))
    (st1_5 t) (hstage1_5 ((cfg1.slots t 5).cast nbuf1_5)) (st1_6 t) (hstage1_6 ((cfg1.slots t 6).cast nbuf1_6)) (st1_7 t) (hstage1_7 ((cfg1.slots t 7).cast nbuf1_7))
    (blk1 V c 0 t) (blk1 V c 1 t) (blk1 V c 2 t) (blk1 V c 3 t) (blk1 V c 4 t) (blk1 V c 5 t) (blk1 V c 6 t) ((dat1 V c).before 7 t d7) Set.univ _) $$ [H0 H1 H2 H3 H4 H5 H6 H7]
  · iframe
  iintro H
  isplitl [HΦ]; · iexact HΦ
  isplitl [Howes]; · iexact Howes
  iexact H

/-! ## The region -/

/-- The one choice of the pipelined call's tables. -/
abbrev adm1 : (p : Fin 1) → (pcfgs (F := F) p).Adm := fun p => (cfgs p).toPCfg_adm

def pdats : (p : Fin 1) → (c : Dev nD) → Dat τ (Elt F) (HIx 1) ℕ UU ℕ (Pipeline.pin (pcfgs (F := F)) adm1 p) c :=
  fun _ c => dat1 V c

/-- A TensorCore owes nothing, its recorded waits those of a SparseCore call that is over. -/
def owes1 (c : Dev nD) : sProp 𝕄 :=
  iprop(∃ W, ⌜(K (F := F)).WBelow (SparseCore.T c) W 8⌝ ∗ owes (SparseCore.T c) (0 : CellTallies nD τ sig (HIx 1)) W)

/-- The staging waits are at the lowest level, so the recorded waits stay within the bound. -/
theorem bound_seen (c : Dev nD) (t : Fin (cfg1.N + 1)) : (dat1 V c).bound (none : HIx 1) t ⊆ seen (F := F) c := by
  rintro p (h | ⟨w, s, rfl⟩)
  · exact h
  · exact Nat.zero_le _

theorem owes1_in (c : Dev nD) (t : Fin (cfg1.N + 1)) : owes1 (F := F) c ⊢ (dat1 V c).owesAt (none : HIx 1) t := by
  unfold owes1 Pipeline.Dat.owesAt Pipeline.owesWithin
  iintro ⟨%W, %hW, HO⟩
  iexists W; isplitr; · ipureintro; exact fun p hp => Or.inl (hW p hp)
  iexact HO

theorem owes1_out (c : Dev nD) (t : Fin (cfg1.N + 1)) : (dat1 V c).owesAt (none : HIx 1) t ⊢ owes1 (F := F) c := by
  unfold owes1 Pipeline.Dat.owesAt Pipeline.owesWithin
  iintro ⟨%W, %hW, HO⟩
  iexists W; isplitr; · ipureintro; exact fun p hp => bound_seen V c t (hW hp)
  iexact HO

set_option backward.isDefEq.respectTransparency.types false in
/-- The region over its arrays alone: entered from them at `V`, left with the inputs as they were and the result
    written back block by block. -/
def reg1 : Pipeline.RegionSeg (pcfgs (F := F)) adm1 (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body1 V c).loose
  hwaits := Pipeline.hwaits_of_owed_zero _ _ _ _ (K (F := F)).L (K (F := F)).lev 0 fun _ _ => rfl
  pre c := iprop((dat1 V c).arrays ((dat1 V c).arrAt · 0) ∗ owes1 c)
  post c := iprop((dat1 V c).arrays ((dat1 V c).arrAt · cfg1.N) ∗ owes1 c)
  X _ := BI.emp
  Y _ := BI.emp
  Z _ := BI.emp
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (owes1_in V c 0); iexact HO
    isplitr <;> iempintro
  hin c := by
    rw [show (pdats V 0 c).Φ 0 = (BI.emp : sProp 𝕄) from rfl]
    iintro ⟨-, -, -⟩; iempintro
  hout c := by
    rw [Pipeline.ownSems0_none, show (pdats V 0 c).Φ (Fin.last _) = (BI.emp : sProp 𝕄) from rfl]
    refine (show (BI.emp : sProp 𝕄) ⊢ iprop(BI.emp ∗ BI.emp ∗ Pipeline.scopedRest spec1 c) from ?_)
    rw [scopedRest1_eq]
    iintro -
    isplitr; · iempintro
    isplitr <;> iempintro
  hexit c := by
    iintro ⟨Ha, HO, -, -⟩
    imodintro
    isplitl [Ha]; · iexact Ha
    iapply (owes1_out V c _); iexact HO

theorem reg1_pre (c : Dev nD) : (reg1 V).pre c = iprop((dat1 V c).arrays ((dat1 V c).arrAt · 0) ∗ owes1 c) := rfl
theorem reg1_post (c : Dev nD) : (reg1 V).post c = iprop((dat1 V c).arrays ((dat1 V c).arrAt · cfg1.N) ∗ owes1 c) := rfl

set_option backward.isDefEq.respectTransparency.types false in
/-- The arrays of the region, one buffer each. -/
theorem arrays1 (c : Dev nD) (G : (w : Fin 8) → Buf (Elt F) ((cfg1.win w).arr.view.loc (c : Thread nD τ))) :
    ((dat1 V c).arrays G : sProp 𝕄)
      = iprop((((c : Thread nD τ).loc main_v1) ↦{fullShare} G 0) ∗ (((c : Thread nD τ).loc main_arg2) ↦{fullShare} G 1)
        ∗ (((c : Thread nD τ).loc main_v2) ↦{fullShare} G 2) ∗ (((c : Thread nD τ).loc main_arg4) ↦{fullShare} G 3)
        ∗ (((c : Thread nD τ).loc main_v3) ↦{fullShare} G 4) ∗ (((c : Thread nD τ).loc main_arg6) ↦{fullShare} G 5)
        ∗ (((c : Thread nD τ).loc main_v4) ↦{fullShare} G 6) ∗ (((c : Thread nD τ).loc main_v5) ↦{fullShare} G 7)) := by
  have h := Pipeline.arrays_eq (Pipeline.pin (pcfgs (F := F)) adm1) (pdats V) 0 c launch1.arr_whole
    ((dat1 V c).share_full fun _ => rfl) G
  exact h.trans (bigSep_W1 _)

/-- The region's ghost state on a device. -/
abbrev ghost1 (c : Dev nD) : sProp 𝕄 :=
  iprop(Pipeline.cellsGhost (Pipeline.pin (pcfgs (F := F)) adm1) EP 0 c ∗ Pipeline.toksInit (Pipeline.pin (pcfgs (F := F)) adm1) EP 0 c)

set_option backward.isDefEq.respectTransparency.types false in
/-- The pipelined call among its own labels. -/
theorem wp_entry [∀ e, Nonempty (Elt F e)] (c : Dev nD) (Q : PUnit → sProp 𝕄) :
    iprop((iprop(boundary (SparseCore.T c) ∗ (dat1 V c).arrays ((dat1 V c).arrAt · cfg1.N) ∗ owes1 c) -∗ Q ⟨⟩)
        ∗ boundary (SparseCore.T c) ∗ ((dat1 V c).arrays ((dat1 V c).arrAt · 0) ∗ owes1 c) ∗ levAts (K (F := F)).L (K (F := F)).lev ∗ ghost1 c)
      ⊢ wp frame (wpE (D (F := F)) 𝒱 (SparseCore.T c) none) Set.univ (.op (.customCall (Pipeline.entry 0) ()) .ret) Q := by
  refine BIBase.Entails.trans ?_ (Pipeline.RegionSeg.wp (pcfgs (F := F)) adm1 (pdats V) (none : HIx 1) cellOf_inj EP defs₀ 𝒱₀ (K (F := F)).L (K (F := F)).lev
    (reg1 V) c none (fun _ h => nomatch h) .ret Q)
  rw [reg1_pre, reg1_post]
  iintro ⟨Hk, Hb, Hp, Hl, Hg⟩
  isplitl [Hk]
  · iintro ⟨Hb, Ha, HO⟩
    rw [wp_ret]
    imodintro
    iapply Hk
    isplitl [Hb]; · iexact Hb
    isplitl [Ha]; · iexact Ha
    iexact HO
  isplitl [Hb]; · iexact Hb
  isplitl [Hp]; · iexact Hp
  isplitl [Hl]; · iexact Hl
  iexact Hg

/-- and among the SparseCore call's. -/
theorem wp_region [∀ e, Nonempty (Elt F e)] (c : Dev nD) (Q : PUnit → sProp 𝕄) :
    iprop((iprop(boundary (SparseCore.T c) ∗ (dat1 V c).arrays ((dat1 V c).arrAt · cfg1.N) ∗ owes1 c) -∗ Q ⟨⟩)
        ∗ boundary (SparseCore.T c) ∗ ((dat1 V c).arrays ((dat1 V c).arrAt · 0) ∗ owes1 c) ∗ levAts (K (F := F)).L (K (F := F)).lev ∗ ghost1 c)
      ⊢ wp frame (wpE ((K (F := F)).defs D) 𝒱 (SparseCore.T c) none) Set.univ
          (SparseCore.liftProg (.op (.customCall (Pipeline.entry 0) ()) .ret)) Q :=
  (wp_entry V c Q).trans ((K (F := F)).wp_liftProg D 𝒱 (SparseCore.T c) Set.univ none _ Q)

end Cert.Proof.Gather

end
-- ==== Proof.Run.lean ====
module

public import proofs.«01_k».proof.Proof.Region
public import Idealize.ShloMosaic.Lib.SparseCore.Quiescent
public import Idealize.ShloMosaic.Lib.StableHlo.Run
public import Idealize.ShloMosaic.Lib.Pipeline.Kit

@[expose] public section

/-! The whole program: the index row reshaped, the SparseCores' gather, the biases reshaped, the layers; from a memory
    whose index words name table rows, every run ends with the arguments unchanged, the result at the layers' value of
    the gathered rows, and every semaphore at zero. -/

noncomputable section

namespace Cert.Proof.Gather

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## A host reshape -/

set_option backward.isDefEq.respectTransparency.types false in
/-- A reshape of array `x` into array `y`, both held whole. -/
theorem wp_host_reshape (d : Dev nD) (x y : Ref sig .tc) (he : x.ty.elt = y.ty.elt) (hn : x.ty.shape.ShapeCasts y.ty.shape)
    (hx : x.space ≠ .host ∧ (x : DevRef τ sig).isScoped = false) (hy : y.space ≠ .host ∧ (y : DevRef τ sig).isScoped = false)
    (hne : x ≠ y) (V : Valuation τ sig (Elt F)) (Q : PUnit → sProp 𝕄) :
    iprop((boundary (SparseCore.T d) ∗ ((SparseCore.T d).loc x ↦{fullShare} V x) ∗ ((SparseCore.T d).loc y ↦{fullShare} V y))
        ∗ ((boundary (SparseCore.T d) ∗ ((SparseCore.T d).loc x ↦{fullShare} V x)
            ∗ ((SparseCore.T d).loc y ↦{fullShare} (fun i => he ▸ shapeCast y.ty.shape (V x) hn i : y.ty.Contents (Elt F)))) -∗ Q ⟨⟩))
      ⊢ wp frame (wpE ((K (F := F)).defs (D (F := F))) 𝒱 (SparseCore.T d) none) Set.univ
          (hlo rfl (StableHlo.reshape x y he hn hx hy) (fun _ => .ret ⟨⟩)) Q := by
  have hb : (StableHlo.reshape (τ := τ) (Val := Elt F) x y he hn hx hy).bufs = {(x : DevRef τ sig), (y : DevRef τ sig)} := rfl
  have hne' : (x : DevRef τ sig) ∉ ({(y : DevRef τ sig)} : Finset (DevRef τ sig)) := by
    rw [Finset.mem_singleton]; exact StableHlo.devRef_ne_of_ne hne
  iintro ⟨⟨Hb, Hx, Hy⟩, Hk⟩
  iapply (wp_hlo 𝒱 (SparseCore.T d) none Set.univ (op := StableHlo.reshape x y he hn hx hy) (q := fun _ => fullShare) (F := V) (fun _ _ => rfl)) $$ [Hb Hx Hy]
  · isplitl [Hb]; · iexact Hb
    rw [hb, SparseCore.bigSep_insert' hne', bigSep_singleton]
    isplitl [Hx]; · iexact Hx
    iexact Hy
  rw [hb, SparseCore.bigSep_insert' hne', bigSep_singleton, StableHlo.reshape_result, StableHlo.reshape_result_ne (h := hne)]
  iintro ⟨Hb, Hx, Hy⟩
  rw [wp_ret]; imodintro
  iapply Hk
  isplitl [Hb]; · iexact Hb
  isplitl [Hx]; · iexact Hx
  iexact Hy

/-! ## What the arrays hold -/

variable (m : (ℓ : Loc nD τ sig) → Buf (Elt F) ℓ)

/-- The table, the index row and the gathered array's contents at the launch. -/
abbrev tabs (d : Dev nD) : Buf (Elt F) (tabLoc d) := m (tabLoc d)
abbrev idxs (d : Dev nD) : Buf (Elt F) (idxLoc d) := shapeCast S1x16384 (m ((d : Thread nD τ).loc main_arg0)) shapeCasts_S16384_S1x16384
abbrev inis (d : Dev nD) : Buf (Elt F) (outLoc d) := m (outLoc d)

/-- What the arrays hold when the layers start. -/
def VR (c : Dev nD) : (b : Ref sig .tc) → Buf (Elt F) ((c : Thread nD τ).loc b) :=
  Function.update (Function.update (Function.update (Function.update (fun b => m ((c : Thread nD τ).loc b))
    main_v1 (gath (tabs m c) (idxs m c)))
    main_v2 (shapeCast S1x128 (m ((c : Thread nD τ).loc main_arg3)) shapeCasts_S128_S1x128))
    main_v3 (shapeCast S1x64 (m ((c : Thread nD τ).loc main_arg5)) shapeCasts_S64_S1x64))
    main_v4 (shapeCast S1x1 (m ((c : Thread nD τ).loc main_arg7)) shapeCasts_S1_S1x1)

theorem VR_v1 (c : Dev nD) : VR m c main_v1 = gath (tabs m c) (idxs m c) := by
  unfold VR
  rw [Function.update_of_ne (by decide), Function.update_of_ne (by decide), Function.update_of_ne (by decide), Function.update_self]
theorem VR_v2 (c : Dev nD) : VR m c main_v2 = shapeCast S1x128 (m ((c : Thread nD τ).loc main_arg3)) shapeCasts_S128_S1x128 := by
  unfold VR
  rw [Function.update_of_ne (by decide), Function.update_of_ne (by decide), Function.update_self]
theorem VR_v3 (c : Dev nD) : VR m c main_v3 = shapeCast S1x64 (m ((c : Thread nD τ).loc main_arg5)) shapeCasts_S64_S1x64 := by
  unfold VR
  rw [Function.update_of_ne (by decide), Function.update_self]
theorem VR_v4 (c : Dev nD) : VR m c main_v4 = shapeCast S1x1 (m ((c : Thread nD τ).loc main_arg7)) shapeCasts_S1_S1x1 := by
  unfold VR
  rw [Function.update_self]
theorem VR_ne (c : Dev nD) (b : Ref sig .tc) (h1 : b ≠ main_v1) (h2 : b ≠ main_v2) (h3 : b ≠ main_v3) (h4 : b ≠ main_v4) :
    VR m c b = m ((c : Thread nD τ).loc b) := by
  unfold VR
  rw [Function.update_of_ne h4, Function.update_of_ne h3, Function.update_of_ne h2, Function.update_of_ne h1]

/-- The result array after the layers. -/
def res (c : Dev nD) : Buf (Elt F) ((c : Thread nD τ).loc main_v5) := (dat1 (VR m) c).arrAt 7 cfg1.N

set_option backward.isDefEq.respectTransparency.types false in
/-- The layers' arrays before them, -/
theorem arrays_start (c : Dev nD) :
    ((dat1 (VR m) c).arrays ((dat1 (VR m) c).arrAt · 0) : sProp 𝕄)
      = iprop((((c : Thread nD τ).loc main_v1) ↦{fullShare} VR m c main_v1) ∗ (((c : Thread nD τ).loc main_arg2) ↦{fullShare} VR m c main_arg2)
        ∗ (((c : Thread nD τ).loc main_v2) ↦{fullShare} VR m c main_v2) ∗ (((c : Thread nD τ).loc main_arg4) ↦{fullShare} VR m c main_arg4)
        ∗ (((c : Thread nD τ).loc main_v3) ↦{fullShare} VR m c main_v3) ∗ (((c : Thread nD τ).loc main_arg6) ↦{fullShare} VR m c main_arg6)
        ∗ (((c : Thread nD τ).loc main_v4) ↦{fullShare} VR m c main_v4) ∗ (((c : Thread nD τ).loc main_v5) ↦{fullShare} VR m c main_v5)) :=
  (arrays1 (VR m) c _).trans rfl

set_option backward.isDefEq.respectTransparency.types false in
/-- and after. -/
theorem arrays_done (c : Dev nD) :
    ((dat1 (VR m) c).arrays ((dat1 (VR m) c).arrAt · cfg1.N) : sProp 𝕄)
      = iprop((((c : Thread nD τ).loc main_v1) ↦{fullShare} VR m c main_v1) ∗ (((c : Thread nD τ).loc main_arg2) ↦{fullShare} VR m c main_arg2)
        ∗ (((c : Thread nD τ).loc main_v2) ↦{fullShare} VR m c main_v2) ∗ (((c : Thread nD τ).loc main_arg4) ↦{fullShare} VR m c main_arg4)
        ∗ (((c : Thread nD τ).loc main_v3) ↦{fullShare} VR m c main_v3) ∗ (((c : Thread nD τ).loc main_arg6) ↦{fullShare} VR m c main_arg6)
        ∗ (((c : Thread nD τ).loc main_v4) ↦{fullShare} VR m c main_v4) ∗ (((c : Thread nD τ).loc main_v5) ↦{fullShare} res m c)) := by
  rw [arrays1, (dat1 (VR m) c).arrAt_in 0 rfl, (dat1 (VR m) c).arrAt_in 1 rfl, (dat1 (VR m) c).arrAt_in 2 rfl, (dat1 (VR m) c).arrAt_in 3 rfl,
    (dat1 (VR m) c).arrAt_in 4 rfl, (dat1 (VR m) c).arrAt_in 5 rfl, (dat1 (VR m) c).arrAt_in 6 rfl]
  rfl

/-! ## The launch's ghost state -/

def u₀ : UU :=
  (initOf (K (F := F)).hsCells (K (F := F)).hsToks,
    (initOf (Pipeline.cells (Pipeline.pin (pcfgs (F := F)) adm1) cellOf_inj) (Pipeline.launchToks (Pipeline.pin (pcfgs (F := F)) adm1) cellOf_inj), 1))

theorem own_regions (a : UR) (b : Counters) : (BI.own (embR ((a, b) : UR × Counters)) : sProp 𝕄) ⊢ BI.own (EP (F := F) a) :=
  (own_pair_emb _ a b).trans sep_elim_left

/-- What @main is given of it. -/
abbrev G1 (d : Dev nD) : sProp 𝕄 := ghost1 (F := F) d

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G1 (F := F) d)
        ∗ bigSep Finset.univ fun thr : Thread nD τ => bigSep Finset.univ fun q : Fin 1 => (P (tabs m) (idxs m) (inis m)).x q thr) := by
  unfold u₀
  iintro Hu
  ihave H := (ownU_pair (initOf (K (F := F)).hsCells (K (F := F)).hsToks) _) $$ Hu
  icases H with ⟨HH, HR⟩
  ihave HR' := (own_regions (F := F) _ _) $$ HR
  imod (Pipeline.fund_ghost (Pipeline.pin (pcfgs (F := F)) adm1) (EP (F := F)) cellOf_inj) $$ HR' with ⟨Hg, Ht⟩
  imodintro
  isplitl [HH]; · iexact HH
  isplitl [Hg Ht]
  · rw [bigSep_sep']
    isplitl [Hg]
    · ihave Hg' := (Entails.of_eq (bigSep_congr fun (c : Dev nD) _ => (bigSep_univ_of_subsingleton (Φ := fun p => Pipeline.cellsGhost (Pipeline.pin (pcfgs (F := F)) adm1) (EP (F := F)) p c) (0 : Fin 1)))) $$ Hg
      iexact Hg'
    · ihave Ht' := (Entails.of_eq (bigSep_congr fun (c : Dev nD) _ => (bigSep_univ_of_subsingleton (Φ := fun p => (Pipeline.toksInit (Pipeline.pin (pcfgs (F := F)) adm1) (EP (F := F)) p c : sProp 𝕄)) (0 : Fin 1)))) $$ Ht
      iexact Ht'
  rw [show (bigSep Finset.univ fun thr : Thread nD τ => bigSep Finset.univ fun q : Fin 1 => (P (tabs m) (idxs m) (inis m)).x q thr) = bigSep Finset.univ fun _ => iprop(emp) from
    bigSep_congr fun _ _ => bigSep_univ_of_subsingleton (0 : Fin 1), bigSep_emp']
  iempintro

/-! ## @main on the TensorCore -/

variable (ρ : Dev nD → PrngReg)

omit [FloatOps F] in
/-- The arrays @main is given. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_arg4 ↦{fullShare} W main_arg4) ∗ ((SparseCore.T d).loc main_arg5 ↦{fullShare} W main_arg5)
      ∗ ((SparseCore.T d).loc main_arg6 ↦{fullShare} W main_arg6) ∗ ((SparseCore.T d).loc main_arg7 ↦{fullShare} W main_arg7)
      ∗ ((SparseCore.T d).loc main_v0 ↦{fullShare} W main_v0) ∗ ((SparseCore.T d).loc main_v1 ↦{fullShare} W main_v1)
      ∗ ((SparseCore.T d).loc main_v2 ↦{fullShare} W main_v2) ∗ ((SparseCore.T d).loc main_v3 ↦{fullShare} W main_v3)
      ∗ ((SparseCore.T d).loc main_v4 ↦{fullShare} W main_v4) ∗ ((SparseCore.T d).loc main_v5 ↦{fullShare} W main_v5)) := by
  unfold unscopedBufs
  rw [show (Finset.univ.filter fun b : Ref sig .tc => ¬ b.isScoped) = {main_arg0, main_arg1, main_arg2, main_arg3, main_arg4, main_arg5, main_arg6,
      main_arg7, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- What @main leaves the claims: the arguments at their launch contents, the result at the layers' value. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5))
    ∗ ((SparseCore.T d).loc main_arg6 ↦{fullShare} m ((SparseCore.T d).loc main_arg6)) ∗ ((SparseCore.T d).loc main_arg7 ↦{fullShare} m ((SparseCore.T d).loc main_arg7))
    ∗ ((SparseCore.T d).loc main_v5 ↦{fullShare} res m d))

/-- The payloads of the call, at the launch memory. -/
abbrev PM : (K (F := F)).Pay (nD := nD) (Val := Elt F) (Name := ℕ) (U := UU) := P (tabs m) (idxs m) (inis m)

/-- The gather: from the table, the index row and the result array, to the gathered rows. -/
theorem wp_gather_call (κ : GSem nD τ sig → ℕ) (d : Dev nD) (Q : PUnit → sProp 𝕄) :
    iprop((K (F := F)).ctx EH (PM m) κ ∗ (K (F := F)).tcSt EH d 0
        ∗ ((tabLoc d ↦{fullShare} tabs m d) ∗ (idxLoc d ↦{fullShare} idxs m d) ∗ outLoc d ↦{fullShare} inis m d)
        ∗ (((K (F := F)).tcSt EH d 1 ∗ (tabLoc d ↦{fullShare} tabs m d) ∗ (idxLoc d ↦{fullShare} idxs m d)
            ∗ outLoc d ↦{fullShare} gath (tabs m d) (idxs m d)) -∗ Q ⟨⟩))
      ⊢ wp frame (wpE ((K (F := F)).defs (D (F := F))) 𝒱 (SparseCore.T d) none) Set.univ ((K (F := F)).run d 0) Q := by
  iintro ⟨#Hctx, Hst, Ha, Hk⟩
  ihave Ha' := ((arrays_tiles (F := F) d (tabs m d) (idxs m d) (inis m d)).1) $$ Ha
  icases Ha' with ⟨Hrest, Htiles⟩
  iapply ((K (F := F)).wp_run (D (F := F)) 𝒱 (EH := EH) (P := PM m) κ d 0) $$ [Hst Htiles Hrest Hk]
  isplitr; · iexact Hctx
  isplitl [Hst]; · iexact Hst
  isplitl [Htiles]
  · rw [st_eq]; iexact Htiles
  iintro ⟨Hst, Hdn⟩
  ihave Hdn' := (Entails.of_eq (dn_eq (tabs m) (idxs m) (inis m) d)) $$ Hdn
  iapply Hk
  isplitl [Hst]; · iexact Hst
  iapply ((arrays_tiles (F := F) d (tabs m d) (idxs m d) (gath (tabs m d) (idxs m d))).2)
  isplitl [Hrest]; · iexact Hrest
  iexact Hdn'

/-- After the call the TensorCore owes nothing: what it owes can be lent to the layers' region. -/
theorem tcSt_lend (d : Dev nD) : ((K (F := F)).tcSt EH d 1 : sProp 𝕄) ⊢ iprop(owes1 d ∗ (owes1 d -∗ (K (F := F)).tcSt EH d 1)) := by
  unfold SparseCore.Cfg.tcSt owes1
  rw [(K (F := F)).Otc_end d (le_refl 1)]
  iintro ⟨HO, Hrest⟩
  isplitl [HO]; · iexact HO
  iintro HO
  isplitl [HO]; · iexact HO
  iexact Hrest

/-- The layers, from the arrays as the reshapes leave them. -/
theorem wp_layers [∀ e, Nonempty (Elt F e)] (κ : GSem nD τ sig → ℕ) (d : Dev nD) (Q : PUnit → sProp 𝕄) :
    iprop((K (F := F)).ctx EH (PM m) κ ∗ (K (F := F)).tcSt EH d 1 ∗ ghost1 d ∗ boundary (SparseCore.T d)
        ∗ (dat1 (VR m) d).arrays ((dat1 (VR m) d).arrAt · 0)
        ∗ (((K (F := F)).tcSt EH d 1 ∗ boundary (SparseCore.T d) ∗ (dat1 (VR m) d).arrays ((dat1 (VR m) d).arrAt · cfg1.N)) -∗ Q ⟨⟩))
      ⊢ wp frame (wpE ((K (F := F)).defs (D (F := F))) 𝒱 (SparseCore.T d) none) Set.univ
          (Prog.lift (.customCall (SparseCore.inner (Pipeline.entry 0)) ())) Q := by
  iintro ⟨#Hctx, Hst, Hg, Hb, Ha, Hk⟩
  ihave Hlev := (SparseCore.Cfg.ctx_levAts κ) $$ Hctx
  ihave Hst' := (tcSt_lend (F := F) d) $$ Hst
  icases Hst' with ⟨HO, Hback⟩
  iapply (wp_region (VR m) d Q)
  isplitl [Hk Hback]
  · iintro ⟨Hb, Ha, HO⟩
    iapply Hk
    isplitl [Hback HO]
    · iapply Hback; iexact HO
    isplitl [Hb]; · iexact Hb
    iexact Ha
  isplitl [Hb]; · iexact Hb
  isplitl [Ha HO]
  · isplitl [Ha]; · iexact Ha
    iexact HO
  isplitl [Hlev]; · iexact Hlev
  iexact Hg

/-- @main on device `d`'s TensorCore. -/
theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ G1 d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, H3, H4, H5, H6, H7, Hv0, Hv1, Hv2, Hv3, Hv4, Hv5⟩, Hts, -⟩, HG⟩
  iapply (wp_host_reshape (F := F) d main_arg0 main_v0 rfl shapeCasts_S16384_S1x16384 _ _ (by decide) (fun b => m (d, b)))
  isplitl [Hb H0 Hv0]
  · isplitl [Hb]; · iexact Hb
    isplitl [H0]; · iexact H0
    iexact Hv0
  iintro ⟨Hb, H0, Hv0⟩
  iapply (wp_gather_call m κ d)
  isplitr; · iexact Hctx
  isplitl [Hst]; · iexact Hst
  isplitl [H1 Hv0 Hv1]
  · isplitl [H1]; · iexact H1
    isplitl [Hv0]; · iexact Hv0
    iexact Hv1
  iintro ⟨Hst, H1, Hv0, Hv1⟩
  iapply (wp_host_reshape (F := F) d main_arg3 main_v2 rfl shapeCasts_S128_S1x128 _ _ (by decide) (fun b => m (d, b)))
  isplitl [Hb H3 Hv2]
  · isplitl [Hb]; · iexact Hb
    isplitl [H3]; · iexact H3
    iexact Hv2
  iintro ⟨Hb, H3, Hv2⟩
  iapply (wp_host_reshape (F := F) d main_arg5 main_v3 rfl shapeCasts_S64_S1x64 _ _ (by decide) (fun b => m (d, b)))
  isplitl [Hb H5 Hv3]
  · isplitl [Hb]; · iexact Hb
    isplitl [H5]; · iexact H5
    iexact Hv3
  iintro ⟨Hb, H5, Hv3⟩
  iapply (wp_host_reshape (F := F) d main_arg7 main_v4 rfl shapeCasts_S1_S1x1 _ _ (by decide) (fun b => m (d, b)))
  isplitl [Hb H7 Hv4]
  · isplitl [Hb]; · iexact Hb
    isplitl [H7]; · iexact H7
    iexact Hv4
  iintro ⟨Hb, H7, Hv4⟩
  iapply (wp_layers m κ d)
  isplitr; · iexact Hctx
  isplitl [Hst]; · iexact Hst
  isplitl [HG]; · iexact HG
  isplitl [Hb]; · iexact Hb
  isplitl [Hv1 H2 Hv2 H4 Hv3 H6 Hv4 Hv5]
  · rw [arrays_start, VR_v1, VR_v2, VR_v3, VR_v4, VR_ne m d main_arg2 (by decide) (by decide) (by decide) (by decide),
      VR_ne m d main_arg4 (by decide) (by decide) (by decide) (by decide), VR_ne m d main_arg6 (by decide) (by decide) (by decide) (by decide),
      VR_ne m d main_v5 (by decide) (by decide) (by decide) (by decide)]
    isplitl [Hv1]; · iexact Hv1
    isplitl [H2]; · iexact H2
    isplitl [Hv2]; · iexact Hv2
    isplitl [H4]; · iexact H4
    isplitl [Hv3]; · iexact Hv3
    isplitl [H6]; · iexact H6
    isplitl [Hv4]; · iexact Hv4
    iexact Hv5
  rw [arrays_done, VR_ne m d main_arg2 (by decide) (by decide) (by decide) (by decide),
    VR_ne m d main_arg4 (by decide) (by decide) (by decide) (by decide), VR_ne m d main_arg6 (by decide) (by decide) (by decide) (by decide)]
  iintro ⟨Hst, Hb, -, H2, -, H4, -, H6, -, Hv5⟩
  imodintro
  isplitl [Hst]; · iexact Hst
  isplitr [Hb Hts]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact Hv5
  isplitl [Hb] <;> iassumption

/-! ## The run -/

/-- What a final memory holds. -/
def fq (d : Dev nD) (mem : (ℓ : Loc nD τ sig) → Buf (Elt F) ℓ) : Prop :=
  mem ((SparseCore.T d).loc main_arg0) = m ((SparseCore.T d).loc main_arg0) ∧ mem ((SparseCore.T d).loc main_arg1) = m ((SparseCore.T d).loc main_arg1)
    ∧ mem ((SparseCore.T d).loc main_arg2) = m ((SparseCore.T d).loc main_arg2) ∧ mem ((SparseCore.T d).loc main_arg3) = m ((SparseCore.T d).loc main_arg3)
    ∧ mem ((SparseCore.T d).loc main_arg4) = m ((SparseCore.T d).loc main_arg4) ∧ mem ((SparseCore.T d).loc main_arg5) = m ((SparseCore.T d).loc main_arg5)
    ∧ mem ((SparseCore.T d).loc main_arg6) = m ((SparseCore.T d).loc main_arg6) ∧ mem ((SparseCore.T d).loc main_arg7) = m ((SparseCore.T d).loc main_arg7)
    ∧ mem ((SparseCore.T d).loc main_v5) = res m d

set_option maxRecDepth 16384 in
/-- An array held whole is what the machine's memory holds there; both stay held. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  isplitr
  · ipureintro; exact funext fun i => h1 i (Finset.mem_univ i)
  iexact HSI

theorem hfin (d : Dev nD) (s' : Phys nD τ sig (Elt F)) : iprop(FIN m d ∗ SI s') ⊢ (⌜fq m d s'.mem.mem⌝ : sProp 𝕄) := by
  iintro ⟨⟨H0, H1, H2, H3, H4, H5, H6, H7, H8⟩, HSI⟩
  ihave H := (agree (F := F) s' _ _) $$ [H0 HSI]
  · isplitl [H0] <;> iassumption
  icases H with ⟨%h0, HSI⟩
  ihave H := (agree (F := F) s' _ _) $$ [H1 HSI]
  · isplitl [H1] <;> iassumption
  icases H with ⟨%h1, HSI⟩
  ihave H := (agree (F := F) s' _ _) $$ [H2 HSI]
  · isplitl [H2] <;> iassumption
  icases H with ⟨%h2, HSI⟩
  ihave H := (agree (F := F) s' _ _) $$ [H3 HSI]
  · isplitl [H3] <;> iassumption
  icases H with ⟨%h3, HSI⟩
  ihave H := (agree (F := F) s' _ _) $$ [H4 HSI]
  · isplitl [H4] <;> iassumption
  icases H with ⟨%h4, HSI⟩
  ihave H := (agree (F := F) s' _ _) $$ [H5 HSI]
  · isplitl [H5] <;> iassumption
  icases H with ⟨%h5, HSI⟩
  ihave H := (agree (F := F) s' _ _) $$ [H6 HSI]
  · isplitl [H6] <;> iassumption
  icases H with ⟨%h6, HSI⟩
  ihave H := (agree (F := F) s' _ _) $$ [H7 HSI]
  · isplitl [H7] <;> iassumption
  icases H with ⟨%h7, HSI⟩
  ihave H := (agree (F := F) s' _ _) $$ [H8 HSI]
  · isplitl [H8] <;> iassumption
  icases H with ⟨%h8, -⟩
  ipureintro; exact ⟨h0, h1, h2, h3, h4, h5, h6, h7, h8⟩

/-- Every run's end: the memory as `fq` says, every semaphore at zero. -/
def QC : PUnit × MemSt nD τ sig (Elt F) → Prop := fun r => (∀ c : Dev nD, fq m c r.2.mem) ∧ r.2.sem = fun _ => 0

/-- Every index word names a table row. -/
def InRange : Prop := ∀ (d : Dev nD) (x : S1x16384.Idx), (idxs m d x).toNat < 100000

/-- Every run of the program from a memory whose index words name table rows. -/
theorem run_main [∀ e, Nonempty (Elt F e)] (hpre : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (tabs m) (idxs m) (inis m) hpre)
    (fun q _ => match q with | 0 => SparseCore.Cfg.VecSplit.of_plain (vecSplit (tabs m) (idxs m) (inis m)))
    m ρ main (fun d => G1 d) (FIN m) (u₀ (F := F)) (sep_elim_left.trans (hu₀ m)) (hmain m ρ) (fun d s' => fq m d s'.mem.mem) (hfin m) (QC m) (fun _ h hz => ⟨h, hz⟩)

end Cert.Proof.Gather

end
-- ==== Proof.Frames.lean ====
module

public import proofs.«01_k».proof.Proof.Run
public import proofs.«01_k».proof.Defs
public import proofs.«01_k».proof.Proof.Gen.Kernel
public import proofs.«01_k».proof.Proof.Gen.Pre_in_range
public import proofs.«01_k».proof.Proof.Gen.ReferenceIdeal.Run
public import Idealize.ShloMosaic.Lib.ReduceAll
public import Idealize.ShloMosaic.Lib.WordArith

@[expose] public section

/-! The frames: the run of `Run.lean` under the precondition, at either reading of the floats, and the reference's. -/

noncomputable section

namespace Cert.Proof.Gather

open Cert.KernelIdeal Cert.KernelIdeal.Gen
open Idealize.ShloMosaic Idealize.ShloMosaic.TcCoe
open Idealize.ShloMosaic.WordArith
open Idealize.SL.Sem

variable {F : FTy → Type} [FloatOps F]

/-- A word that is at least zero and below 100000 as a signed number is below 100000 as a natural number. -/
theorem word_lt (v : BitVec 32) (h : IntOp.andi (IntOp.cmpi .sge v 0#32) (IntOp.cmpi .slt v 100000#32) = 1#1) : v.toNat < 100000 := by
  simp only [IntOp.cmpi, andi_ofBool, ofBool_eq_one_iff, Bool.and_eq_true, BitVec.sle_eq_decide, BitVec.slt_eq_decide,
    decide_eq_true_eq, BitVec.toInt_eq_toNat_cond, BitVec.toNat_ofNat, Nat.reducePow, Nat.reduceMod] at h
  omega

/-- The precondition's word is one only if every index word is in range. -/
theorem words_lt (a0 : IVec S16384 32) (a1 : FVec F S100000x128 .f32) (a2 : FVec F S128x128 .f32) (a3 : FVec F S128 .f32) (a4 : FVec F S128x64 .f32)
    (a5 : FVec F S64 .f32) (a6 : FVec F S64x1 .f32) (a7 : FVec F S1 .f32) (h : Cert.Pre_in_range.fn a0 a1 a2 a3 a4 a5 a6 a7 = fun _ => 1#1)
    (i : S16384.Idx) : (a0 i).toNat < 100000 := by
  dsimp only [Cert.Pre_in_range.fn] at h
  have : Subsingleton Cert.Pre_in_range.S_.Idx := ⟨fun x y => funext fun k => k.elim0⟩
  exact word_lt _ (Host.reduce_andi_all _ _ _ _ (fun k => k.elim0) (congrFun h _) i)

theorem inRange_of_words (m : (ℓ : Loc nD τ sig) → Buf (Elt F) ℓ)
    (h : ∀ (d : Dev nD) (i : S16384.Idx), (m ((d : Thread nD τ).loc main_arg0) i : BitVec 32).toNat < 100000) : InRange m :=
  fun d x => h d (Shape.reshapeEquiv shapeCasts_S16384_S1x16384 x)

/-- The run's end as the frames state it. -/
theorem args_kept [∀ e, Nonempty (Elt F e)] (m : (ℓ : Loc nD τ sig) → Buf (Elt F) ℓ) (ρ : Dev nD → PrngReg)
    (h : ∀ (d : Dev nD) (i : S16384.Idx), (m ((d : Thread nD τ).loc main_arg0) i : BitVec 32).toNat < 100000) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run Cert.KernelIdeal.defs _ _).mono
    (fun _ h => ⟨fun c => let ⟨h0, h1, h2, h3, h4, h5, h6, h7, _⟩ := h.1 c; ⟨h0, h1, h2, h3, h4, h5, h6, h7⟩, h.2⟩)
    (run_main m ρ (inRange_of_words m h))

theorem frame_kernel_ideal : Cert.quiescent_KernelIdeal := fun m ρ hpre =>
  args_kept (F := Ideal) m ρ fun d => words_lt _ _ _ _ _ _ _ _ (hpre d)

/-- The kernel's two programs have the same text: their body tables, -/
theorem bodies_eq : Cert.Kernel.defs₀ (F := F) = Cert.KernelIdeal.defs₀ (F := F) := by
  funext p
  cases p with
  | tc => funext ℓ a; match ℓ, a with
    | 0, _ => rfl
    | 1, (_, _) => rfl
  | scScalar c => rfl
  | scVector c s => funext ℓ a; match ℓ, a with
    | 0, _ => rfl
    | 1, _ => rfl

/-- and with them their definitions. -/
theorem defs_eq : Cert.Kernel.defs (F := F) = Cert.KernelIdeal.defs (F := F) := by
  unfold Cert.Kernel.defs
  rw [bodies_eq]
  rfl

theorem frame_kernel : Cert.quiescent_Kernel := by
  intro m ρ hpre
  rw [defs_eq]
  exact args_kept (F := Bits) m ρ fun d => words_lt _ _ _ _ _ _ _ _ (hpre d)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Gather

end
-- ==== Proof.Layers.lean ====
module

public import proofs.«01_k».proof.Proof.Gen.KernelIdeal.Skeleton
public import proofs.«01_k».proof.Proof.Gen.KernelIdeal
public import proofs.«01_k».proof.Proof.Gen.ReferenceIdeal
public import Idealize.ShloMosaic.Lib.Pointwise

@[expose] public section

/-! The three layers over the reals, one row at a time: the kernel's block and the reference's array hold the same
    function of their rows. -/

noncomputable section

namespace Cert.Proof.Gather

open Idealize.ShloMosaic

/-- One hidden layer of a row, before the next: each entry is a product of the row with a column, its bias added, or zero if
    that is negative. -/
def hidden {n p : Nat} (x : Fin n → EReal) (W : (⟨2, ![n, p]⟩ : Shape).Idx → EReal) (b : (⟨1, ![p]⟩ : Shape).Idx → EReal) (k : Fin p) : EReal :=
  max ((∑ i : Fin n, x i * W (ix2 i k)) + b (ix1 k)) 0

/-- What the three layers make of a row of the table. -/
def layers (x : Fin 128 → EReal) (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal) (W3 : (⟨2, ![64, 1]⟩ : Shape).Idx → EReal)
    (b3 : (⟨1, ![1]⟩ : Shape).Idx → EReal) : EReal :=
  Ideal.logistic ((∑ k : Fin 64, hidden (hidden x W1 b1) W2 b2 k * W3 (ix2 k 0)) + b3 (ix1 0))

section Kernel
open Cert.KernelIdeal Cert.KernelIdeal.Gen

/-- The kernel's block: each row's result is the layers' of that row. -/
theorem pay_row (v0 : Vec Ideal S8192x128 .f32) (v3 : Vec Ideal S128x128 .f32) (b1 : Vec Ideal S128 .f32) (v13 : Vec Ideal S128x64 .f32)
    (b2 : Vec Ideal S64 .f32) (v23 : Vec Ideal S64x1 .f32) (b3 : Vec Ideal S1 .f32) (y : S8192x1.Idx) :
    k1_pay1 v0 v3 (shapeCast S1x128 b1 shapeCasts_S128_S1x128) v13 (shapeCast S1x64 b2 shapeCasts_S64_S1x64) v23 (shapeCast S1x1 b3 shapeCasts_S1_S1x1) y
      = layers (fun i => v0 (ix2 (y 0) i)) v3 b1 v13 b2 v23 b3 := by
  idx_vars y
  unfold layers hidden
  pointwise [k1_pay1]
  rw [Subsingleton.elim y1 (0 : Fin 1)]

end Kernel

section Reference
open Cert.ReferenceIdeal Cert.ReferenceIdeal.Gen

/-- The reference's layers on an array of rows. -/
def refLayers {F : FTy → Type} [FloatOps F] (h : FVec F S16384x128 .f32) (W1 : FVec F S128x128 .f32) (b1 : FVec F S128 .f32) (W2 : FVec F S128x64 .f32) (b2 : FVec F S64 .f32)
    (W3 : FVec F S64x1 .f32) (b3 : FVec F S1 .f32) : FVec F S16384x1 .f32 :=
  Host.divf (broadcastInDim S16384x1 ![] bcast_S_S16384x1 (constant S_ .f32 0x3F800000#32)) (addf (broadcastInDim S16384x1 ![] bcast_S_S16384x1 (constant S_ .f32 0x3F800000#32)) (Host.exp (Host.negf
    (addf (Host.dotGeneral dot_S16384x64_S64x1_S16384x1_1_0_0_1_n_n none
      (maximumf (addf (Host.dotGeneral dot_S16384x128_S128x64_S16384x64_1_0_0_1_n_n none
        (maximumf (addf (Host.dotGeneral dot_S16384x128_S128x128_S16384x128_1_0_0_1_n_n none h W1)
          (broadcastInDim S16384x128 ![0, 1] bcast_S1x128_S16384x128_0_1 (broadcastInDim S1x128 ![1] bcast_S128_S1x128_1 b1)))
          (broadcastInDim S16384x128 ![] bcast_S_S16384x128 (constant S_ .f32 0x00000000#32))) W2)
        (broadcastInDim S16384x64 ![0, 1] bcast_S1x64_S16384x64_0_1 (broadcastInDim S1x64 ![1] bcast_S64_S1x64_1 b2)))
        (broadcastInDim S16384x64 ![] bcast_S_S16384x64 (constant S_ .f32 0x00000000#32))) W3)
      (broadcastInDim S16384x1 ![0, 1] bcast_S1x1_S16384x1_0_1 (broadcastInDim S1x1 ![1] bcast_S1_S1x1_1 b3))))))

theorem ref_row (h : FVec Ideal S16384x128 .f32) (W1 : FVec Ideal S128x128 .f32) (b1 : FVec Ideal S128 .f32) (W2 : FVec Ideal S128x64 .f32) (b2 : FVec Ideal S64 .f32)
    (W3 : FVec Ideal S64x1 .f32) (b3 : FVec Ideal S1 .f32) (y : S16384x1.Idx) :
    refLayers h W1 b1 W2 b2 W3 b3 y = layers (fun i => h (ix2 (y 0) i)) W1 b1 W2 b2 W3 b3 := by
  idx_vars y
  unfold layers hidden Ideal.logistic
  pointwise [refLayers]
  rw [Subsingleton.elim y1 (0 : Fin 1)]

end Reference

end Cert.Proof.Gather

end
-- ==== Proof.Take.lean ====
module

public import proofs.«01_k».proof.Proof.Gen.ReferenceIdeal
public import proofs.«01_k».proof.Proof.Views
public import Idealize.ShloMosaic.Lib.Routing.Ops
public import Idealize.ShloMosaic.Lib.Routing.OpsPair
public import Idealize.ShloMosaic.Lib.ReduceAll
public import Idealize.ShloMosaic.Lib.WordArith
public import Idealize.ShloMosaic.Lib.PointwiseCore

@[expose] public section

/-! The reference's `take`: at an index that lies in the table it is the table's row. It wraps a negative index, marks the
    indices that lie in the table, gathers, and puts a fill where the mark is missing; on indices in range the wrap
    changes nothing and every index is marked. -/

noncomputable section

namespace Cert.Proof.Gather

open Cert.ReferenceIdeal Cert.ReferenceIdeal.Gen
open Idealize.ShloMosaic

/-- The indices after the wrap, as a column. -/
def wrapped (a0 : IVec S16384 32) : IVec S16384x1 32 :=
  broadcastInDim S16384x1 ![0] bcast_S16384_S16384x1_0 (select (cmpi .slt a0 (broadcastInDim S16384 ![] bcast_S_S16384 (constantI S_ 32 0#32)))
    (addi a0 (broadcastInDim S16384 ![] bcast_S_S16384 (constantI S_ 32 100000#32))) a0)

/-- The marks: one bit for each index. -/
def marks (w : IVec S16384x1 32) : IVec S16384 1 :=
  Host.reduce IntOp.andi (andi (cmpi .sge w (broadcastInDim S16384x1 ![] bcast_S_S16384x1 (constantI S_ 32 0#32)))
      (cmpi .sle w (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_

/-- The rows that `take` returns. -/
def taken {F : FTy → Type} [FloatOps F] (a0 : IVec S16384 32) (tab : FVec F S100000x128 .f32) : FVec F S16384x128 .f32 :=
  select (broadcastInDim S16384x128 ![0] bcast_S16384_S16384x128_0 (marks (wrapped a0)))
    (Host.gather gather_S100000x128_S16384x1_S16384x128_1_0_n_n_0_1_1128 tab (wrapped a0))
    (broadcastInDim S16384x128 ![] bcast_S_S16384x128 (constant S_ .f32 0x7FC00000#32))

/-- The wrap leaves an index in range. -/
theorem wrapped_apply (a0 : IVec S16384 32) (h : ∀ i, (a0 i).toNat < 100000) (r : Fin 16384) (z : Fin 1) :
    wrapped a0 (ix2 r z) = a0 (ix1 r) := by
  unfold wrapped
  pointwise
  exact Routing.wrap_of_lt _ _ (Nat.lt_trans (h _) (by decide))

/-- Both comparisons hold of an index in range. -/
theorem word_marked (w : BitVec 32) (h : w.toNat < 100000) :
    IntOp.andi (IntOp.cmpi .sge w 0#32) (IntOp.cmpi .sle w 99999#32) = 1#1 := by
  simp only [IntOp.cmpi, WordArith.andi_ofBool, WordArith.ofBool_eq_one_iff, Bool.and_eq_true, BitVec.sle_eq_decide,
    decide_eq_true_eq, BitVec.toInt_eq_toNat_cond, BitVec.toNat_ofNat, Nat.reducePow, Nat.reduceMod]
  omega

/-- Every index in range is marked. -/
theorem marks_apply (a0 : IVec S16384 32) (h : ∀ i, (a0 i).toNat < 100000) (j : S16384.Idx) : marks (wrapped a0) j = 1#1 := by
  unfold marks
  refine Host.reduce_andi_one _ _ _ _ _ rfl fun i => ?_
  idx_vars i
  pointwise
  rw [wrapped_apply a0 h]
  exact word_marked _ (h _)

/-- On indices in range `take` returns the table's rows. -/
theorem taken_apply {F : FTy → Type} [FloatOps F] (a0 : IVec S16384 32) (tab : FVec F S100000x128 .f32) (h : ∀ i, (a0 i).toNat < 100000)
    (r : Fin 16384) (k : Fin 128) : taken a0 tab (ix2 r k) = tab (ix2 (rowNo (a0 (ix1 r))) k) := by
  have hb : wrapped a0 (ix2 r 0) = BitVec.ofNat 32 (rowNo (a0 (ix1 r))).val := by
    rw [wrapped_apply a0 h, rowNo_val _ (h _), BitVec.ofNat_toNat, BitVec.setWidth_eq]
  have hm : broadcastInDim S16384x128 ![0] bcast_S16384_S16384x128_0 (marks (wrapped a0)) (ix2 r k) = 1#1 := marks_apply a0 h _
  unfold taken
  rw [ValueIdx.select_apply, hm, ValueIdx.select_one]
  exact Routing.gather_row gather_S100000x128_S16384x1_S16384x128_1_0_n_n_0_1_1128 rfl rfl rfl rfl rfl tab (wrapped a0) r k _ hb (by decide)

end Cert.Proof.Gather

end
-- ==== Proof.Value.lean ====
module

public import proofs.«01_k».proof.Proof.Frames
public import proofs.«01_k».proof.Proof.Layers
public import proofs.«01_k».proof.Proof.Take
public import Idealize.ShloMosaic.Lib.Pipeline.ValueKit.Geometry

@[expose] public section

/-! The value of the kernel over the reals: the array that the run leaves is the reference's. -/

noncomputable section

namespace Cert.Proof.Gather

open Cert.KernelIdeal Cert.KernelIdeal.Gen
open Idealize.ShloMosaic Idealize.ShloMosaic.TcCoe
open Idealize.SL.Sem

variable (m : (ℓ : Loc nD τ sig) → Buf (Elt Ideal) ℓ)

/-- The blocks' places: the gathered rows and the result advance by a block at each point, the others are whole. -/
theorem places : ∀ t : Fin cfg1.N, win1_0.index t = ![t.val, 0] ∧ win1_1.index t = ![0, 0] ∧ win1_2.index t = ![0, 0] ∧ win1_3.index t = ![0, 0]
    ∧ win1_4.index t = ![0, 0] ∧ win1_5.index t = ![0, 0] ∧ win1_6.index t = ![0, 0] ∧ win1_7.index t = ![t.val, 0] :=
  (by decide +kernel : ∀ t : Fin grid1.N, _)

variable (V : (c : Dev nD) → (b : Ref sig .tc) → Buf (Elt Ideal) ((c : Thread nD τ).loc b))

theorem blk1_1 (c : Dev nD) (t : Fin cfg1.N) : blk1 V c 1 t = V c main_arg2 := by
  obtain ⟨-, e, -⟩ := places t
  funext x; blk_ext [blk1, e]
theorem blk1_2 (c : Dev nD) (t : Fin cfg1.N) : blk1 V c 2 t = V c main_v2 := by
  obtain ⟨-, -, e, -⟩ := places t
  funext x; blk_ext [blk1, e]
theorem blk1_3 (c : Dev nD) (t : Fin cfg1.N) : blk1 V c 3 t = V c main_arg4 := by
  obtain ⟨-, -, -, e, -⟩ := places t
  funext x; blk_ext [blk1, e]
theorem blk1_4 (c : Dev nD) (t : Fin cfg1.N) : blk1 V c 4 t = V c main_v3 := by
  obtain ⟨-, -, -, -, e, -⟩ := places t
  funext x; blk_ext [blk1, e]
theorem blk1_5 (c : Dev nD) (t : Fin cfg1.N) : blk1 V c 5 t = V c main_arg6 := by
  obtain ⟨-, -, -, -, -, e, -⟩ := places t
  funext x; blk_ext [blk1, e]
theorem blk1_6 (c : Dev nD) (t : Fin cfg1.N) : blk1 V c 6 t = V c main_v4 := by
  obtain ⟨-, -, -, -, -, -, e, -⟩ := places t
  funext x; blk_ext [blk1, e]

/-- A row of the block is the row of the array at the same place of the result. -/
theorem blk1_0 (c : Dev nD) (t : Fin cfg1.N) (y : S8192x1.Idx) (i : Fin 128) :
    blk1 V c 0 t (ix2 (y 0) i) = V c main_v1 (ix2 ((win1_7.blk t).view.emb y 0) i) := by
  obtain ⟨e0, -, -, -, -, -, -, e7⟩ := places t
  blk_ext [blk1, e0, e7]

/-- Every row of the result is the layers' of the row that the SparseCores gathered. -/
theorem res_rows (c : Dev nD) :
    res m c = fun y : S16384x1.Idx => layers (fun i => gath (tabs m c) (idxs m c) (ix2 (y 0) i))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  unfold res
  refine (dat1 (VR m) c).arrAt_eq_of_covers 7 _ (by decide +kernel) fun t hf y => ?_
  blk_simp
  show mlpBlk (VR m) c t y = _
  unfold mlpBlk
  rw [blk1_1, blk1_2, blk1_3, blk1_4, blk1_5, blk1_6, VR_v2, VR_v3, VR_v4,
    VR_ne m c main_arg2 (by decide) (by decide) (by decide) (by decide), VR_ne m c main_arg4 (by decide) (by decide) (by decide) (by decide),
    VR_ne m c main_arg6 (by decide) (by decide) (by decide) (by decide)]
  refine (pay_row (blk1 (VR m) c 0 t) _ _ _ _ _ _ y).trans ?_
  refine congrArg (fun x => layers x _ _ _ _ _ _) (funext fun i => ?_)
  rw [blk1_0, VR_v1]

/-- The gathered rows are the rows that the reference takes. -/
theorem gath_taken (c : Dev nD) (h : ∀ i : S16384.Idx, (m ((c : Thread nD τ).loc main_arg0) i : BitVec 32).toNat < 100000) (r : Fin 16384) (i : Fin 128) :
    gath (tabs m c) (idxs m c) (ix2 r i) = taken (F := Ideal) (m ((c : Thread nD τ).loc main_arg0)) (m ((c : Thread nD τ).loc main_arg1)) (ix2 r i) := by
  rw [taken_apply _ _ h]
  have e : idxs m c (ix2 (0 : Fin 1) r) = m ((c : Thread nD τ).loc main_arg0) (ix1 r) :=
    Routing.cast12 (a := 1) (b := 16384) (n := 16384) _ _ 0 r r (by show r.val = 0 * 16384 + r.val; omega)
  exact congrArg (fun w => m ((c : Thread nD τ).loc main_arg1) (ix2 (rowNo w) i)) e

/-- The array that the kernel's run leaves is the reference's layers of the rows that the reference takes. -/
theorem res_eq (c : Dev nD) (h : ∀ i : S16384.Idx, (m ((c : Thread nD τ).loc main_arg0) i : BitVec 32).toNat < 100000) :
    res m c = refLayers (F := Ideal) (taken (F := Ideal) (m ((c : Thread nD τ).loc main_arg0)) (m ((c : Thread nD τ).loc main_arg1)))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  rw [res_rows]
  funext y
  refine Eq.trans ?_ (ref_row _ _ _ _ _ _ _ y).symm
  exact congrArg (fun x => layers x _ _ _ _ _ _) (funext fun i => gath_taken m c h (y 0) i)

/-- From memories that agree on the arguments the kernel and the reference leave the same result. -/
theorem algebraic : Cert.algebraic_KernelIdeal_ReferenceIdeal := by
  intro m g m' g' hpre hagree
  have hw : ∀ (d : Dev nD) (i : S16384.Idx), (m ((d : Thread nD τ).loc main_arg0) i : BitVec 32).toNat < 100000 :=
    fun d => words_lt _ _ _ _ _ _ _ _ (hpre d)
  refine ⟨res m, ?_, ?_⟩
  · refine (θ_run (Cert.KernelIdeal.defs (F := Ideal)) _ _).mono (fun r h c => ?_) (run_main m g (inRange_of_words m hw))
    obtain ⟨h0, h1, h2, h3, h4, h5, h6, h7, h8⟩ := h.1 c
    exact ⟨h8, h0, h1, h2, h3, h4, h5, h6, h7⟩
  · refine (θ_run Cert.ReferenceIdeal.defs _ _).mono (fun r h c => ?_) (Cert.ReferenceIdeal.Value.run (F := Ideal) m' g')
    refine ⟨(h c).1.trans ?_, (h c).2⟩
    obtain ⟨a0, a1, a2, a3, a4, a5, a6, a7⟩ := hagree c
    rw [a0, a1, a2, a3, a4, a5, a6, a7]
    exact (res_eq m c (hw c)).symm

end Cert.Proof.Gather

end
-- ==== Proof.lean ====
/- The claims of this directory, put together: first the facts that the programs state of their own, then
   the frame of the kernel as printed, of the same kernel over the reals, and of the reference, and the
   value: over the reals the kernel's result is the reference's. The proofs are in Proof/Frames.lean,
   Proof/Value.lean and the modules they import. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_in_range.Gen.facts,
    Gather.frame_kernel, Gather.frame_kernel_ideal, Gather.frame_reference,
    fun m ρ _ => Gather.frame_reference m ρ trivial, trivial, Gather.algebraic⟩

end Cert.Proof

end
